-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x128 : Shape := ⟨3, ![1, 2048, 128]⟩
abbrev S128x1024 : Shape := ⟨2, ![128, 1024]⟩
abbrev S1024x128 : Shape := ⟨2, ![1024, 128]⟩
abbrev S128 : Shape := ⟨1, ![128]⟩
abbrev S_ : Shape := ⟨0, ![]⟩

class Facts : Prop where
  bcast_S_S1x2048x128 : S_.BroadcastsInDim S1x2048x128 (![] : Fin 0 → Fin S1x2048x128.rank)
  reducesTo_S1x2048x128_S_d0_1_2 : S1x2048x128.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S1x2048x128 .f32) (main_arg1 : FVec F S128x1024 .f32) (main_arg2 : FVec F S128x1024 .f32) (main_arg3 : FVec F S128x1024 .f32) (main_arg4 : FVec F S1024x128 .f32) (main_arg5 : FVec F S128 .f32) : IVec S_ 1 :=
  let main_v0 : FVec F S1x2048x128 .f32 := Host.absf main_arg0
  let main_cst : FVec F S_ .f32 := constant S_ .f32 0x7F800000#32
  let main_v1 : FVec F S1x2048x128 .f32 := broadcastInDim S1x2048x128 ![] bcast_S_S1x2048x128 main_cst
  let main_v2 : IVec S1x2048x128 1 := cmpf .olt main_v0 main_v1
  let main_c : IVec S_ 1 := constantI S_ 1 1#1
  let main_v3 : IVec S_ 1 := (fun x v => Host.reduce IntOp.andi x v reducesTo_S1x2048x128_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  main_v13
-- ==== Kernel.lean ====
abbrev S1x2048x128 : Shape := ⟨3, ![1, 2048, 128]⟩
abbrev S128x1024 : Shape := ⟨2, ![128, 1024]⟩
abbrev S1024x128 : Shape := ⟨2, ![1024, 128]⟩
abbrev S128 : Shape := ⟨1, ![128]⟩
abbrev S2048x128 : Shape := ⟨2, ![2048, 128]⟩
abbrev S1x128 : Shape := ⟨2, ![1, 128]⟩
abbrev S2048x1024 : Shape := ⟨2, ![2048, 1024]⟩
abbrev S32x1024 : Shape := ⟨2, ![32, 1024]⟩
abbrev S224x256 : Shape := ⟨2, ![224, 256]⟩
abbrev S256x288 : Shape := ⟨2, ![256, 288]⟩
abbrev S224x1024 : Shape := ⟨2, ![224, 1024]⟩
abbrev S256x1024 : Shape := ⟨2, ![256, 1024]⟩
abbrev S224x128 : Shape := ⟨2, ![224, 128]⟩
abbrev S256x128 : Shape := ⟨2, ![256, 128]⟩
abbrev S224 : Shape := ⟨1, ![224]⟩
abbrev S224x1 : Shape := ⟨2, ![224, 1]⟩
abbrev S288x1024 : Shape := ⟨2, ![288, 1024]⟩
abbrev S288x128 : Shape := ⟨2, ![288, 128]⟩
abbrev S256 : Shape := ⟨1, ![256]⟩
abbrev S256x1 : Shape := ⟨2, ![256, 1]⟩

abbrev nBuf : Space → Nat
  | .hbm => 13
  | .vmem => 7
  | .smem => 0
  | _ => 0

abbrev bufTy : (tb : Table) → Fin (tcTables nBuf tb) → BufTy
  | .hbm, ⟨0, _⟩ => ⟨S1x2048x128, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S128, .f32⟩
  | .hbm, ⟨6, _⟩ => ⟨S2048x128, .f32⟩
  | .hbm, ⟨7, _⟩ => ⟨S2048x128, .bf16⟩
  | .hbm, ⟨8, _⟩ => ⟨S128x1024, .bf16⟩
  | .hbm, ⟨9, _⟩ => ⟨S128x1024, .bf16⟩
  | .hbm, ⟨10, _⟩ => ⟨S1024x128, .bf16⟩
  | .hbm, ⟨11, _⟩ => ⟨S1x128, .f32⟩
  | .hbm, ⟨12, _⟩ => ⟨S2048x128, .f32⟩
  | .local _ .vmem, ⟨0, _⟩ => ⟨S2048x128, .bf16⟩
  | .local _ .vmem, ⟨1, _⟩ => ⟨S128x1024, .f32⟩
  | .local _ .vmem, ⟨2, _⟩ => ⟨S128x1024, .bf16⟩
  | .local _ .vmem, ⟨3, _⟩ => ⟨S128x1024, .bf16⟩
  | .local _ .vmem, ⟨4, _⟩ => ⟨S1024x128, .bf16⟩
  | .local _ .vmem, ⟨5, _⟩ => ⟨S1x128, .f32⟩
  | .local _ .vmem, ⟨6, _⟩ => ⟨S2048x128, .f32⟩
  | _, _ => ⟨S1x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ * (Real.log 2)⁻¹ : ℝ) : EReal)
  | _ => none
-- ==== ReferenceIdeal.lean ====
abbrev S1x2048x128 : Shape := ⟨3, ![1, 2048, 128]⟩
abbrev S128x1024 : Shape := ⟨2, ![128, 1024]⟩
abbrev S1024x128 : Shape := ⟨2, ![1024, 128]⟩
abbrev S128 : Shape := ⟨1, ![128]⟩
abbrev S_ : Shape := ⟨0, ![]⟩
abbrev S1x2079x128 : Shape := ⟨3, ![1, 2079, 128]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x2079x1024 : Shape := ⟨3, ![1, 2079, 1024]⟩
abbrev S1x2079x8x128 : Shape := ⟨4, ![1, 2079, 8, 128]⟩
abbrev S1x8x2079x128 : Shape := ⟨4, ![1, 8, 2079, 128]⟩
abbrev S2048 : Shape := ⟨1, ![2048]⟩
abbrev S2048x1 : Shape := ⟨2, ![2048, 1]⟩
abbrev S32 : Shape := ⟨1, ![32]⟩
abbrev S1x32 : Shape := ⟨2, ![1, 32]⟩
abbrev S2048x32 : Shape := ⟨2, ![2048, 32]⟩
abbrev S2048x32x1 : Shape := ⟨3, ![2048, 32, 1]⟩
abbrev S1 : Shape := ⟨1, ![1]⟩
abbrev S1x1x1 : Shape := ⟨3, ![1, 1, 1]⟩
abbrev S1x8x2048x32x128 : Shape := ⟨5, ![1, 8, 2048, 32, 128]⟩
abbrev S1x8x2048x32 : Shape := ⟨4, ![1, 8, 2048, 32]⟩
abbrev S1x8x2048 : Shape := ⟨3, ![1, 8, 2048]⟩
abbrev S1x8x2048x1 : Shape := ⟨4, ![1, 8, 2048, 1]⟩
abbrev S1x1x128 : Shape := ⟨3, ![1, 1, 128]⟩
abbrev S2048x128 : Shape := ⟨2, ![2048, 128]⟩

abbrev nBuf : Space → Nat
  | .hbm => 101
  | .vmem => 0
  | .smem => 0
  | _ => 0

abbrev bufTy : (tb : Table) → Fin (tcTables nBuf tb) → BufTy
  | .hbm, ⟨0, _⟩ => ⟨S1x2048x128, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S1x2079x128, .f32⟩
  | .hbm, ⟨9, _⟩ => ⟨S1x2048x1024, .f32⟩
  | .hbm, ⟨10, _⟩ => ⟨S1x2048x8x128, .f32⟩
  | .hbm, ⟨11, _⟩ => ⟨S1x8x2048x128, .f32⟩
  | .hbm, ⟨12, _⟩ => ⟨S1x2079x1024, .f32⟩
  | .hbm, ⟨13, _⟩ => ⟨S1x2079x8x128, .f32⟩
  | .hbm, ⟨14, _⟩ => ⟨S1x8x2079x128, .f32⟩
  | .hbm, ⟨15, _⟩ => ⟨S1x2079x1024, .f32⟩
  | .hbm, ⟨16, _⟩ => ⟨S1x2079x8x128, .f32⟩
  | .hbm, ⟨17, _⟩ => ⟨S1x8x2079x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x8x2048x128, .f32⟩
  | .hbm, ⟨22, _⟩ => ⟨S1x8x2048x128, .f32⟩
  | .hbm, ⟨23, _⟩ => ⟨S1x8x2079x128, .f32⟩
  | .hbm, ⟨24, _⟩ => ⟨S1x8x2079x128, .f32⟩
  | .hbm, ⟨25, _⟩ => ⟨S2048, .i32⟩
  | .hbm, ⟨26, _⟩ => ⟨S2048x1, .i32⟩
  | .hbm, ⟨27, _⟩ => ⟨S32, .i32⟩
  | .hbm, ⟨28, _⟩ => ⟨S1x32, .i32⟩
  | .hbm, ⟨29, _⟩ => ⟨S2048x32, .i32⟩
  | .hbm, ⟨30, _⟩ => ⟨S2048x32, .i32⟩
  | .hbm, ⟨31, _⟩ => ⟨S2048x32, .i32⟩
  | .hbm, ⟨32, _⟩ => ⟨S_, .i32⟩
  | .hbm, ⟨33, _⟩ => ⟨S2048x32, .i32⟩
  | .hbm, ⟨34, _⟩ => ⟨S2048x32, .i1⟩
  | .hbm, ⟨35, _⟩ => ⟨S_, .i32⟩
  | .hbm, ⟨36, _⟩ => ⟨S2048x32, .i32⟩
  | .hbm, ⟨37, _⟩ => ⟨S2048x32, .i32⟩
  | .hbm, ⟨38, _⟩ => ⟨S2048x32, .i32⟩
  | .hbm, ⟨39, _⟩ => ⟨S2048x32x1, .i32⟩
  | .hbm, ⟨40, _⟩ => ⟨S1, .i32⟩
  | .hbm, ⟨41, _⟩ => ⟨S_, .i32⟩
  | .hbm, ⟨42, _⟩ => ⟨S2048x32x1, .i32⟩
  | .hbm, ⟨43, _⟩ => ⟨S2048x32x1, .i1⟩
  | .hbm, ⟨44, _⟩ => ⟨S1x1x1, .i32⟩
  | .hbm, ⟨45, _⟩ => ⟨S2048x32x1, .i32⟩
  | .hbm, ⟨46, _⟩ => ⟨S2048x32x1, .i1⟩
  | .hbm, ⟨47, _⟩ => ⟨S2048x32x1, .i1⟩
  | .hbm, ⟨48, _⟩ => ⟨S_, .i1⟩
  | .hbm, ⟨49, _⟩ => ⟨S2048x32, .i1⟩
  | .hbm, ⟨50, _⟩ => ⟨S1x8x2048x32x128, .f32⟩
  | .hbm, ⟨51, _⟩ => ⟨S1x8x2048x32x128, .i1⟩
  | .hbm, ⟨52, _⟩ => ⟨S_, .f32⟩
  | .hbm, ⟨53, _⟩ => ⟨S1x8x2048x32x128, .f32⟩
  | .hbm, ⟨54, _⟩ => ⟨S1x8x2048x32x128, .f32⟩
  | .hbm, ⟨55, _⟩ => ⟨S_, .i32⟩
  | .hbm, ⟨56, _⟩ => ⟨S2048x32, .i32⟩
  | .hbm, ⟨57, _⟩ => ⟨S2048x32, .i1⟩
  | .hbm, ⟨58, _⟩ => ⟨S_, .i32⟩
  | .hbm, ⟨59, _⟩ => ⟨S2048x32, .i32⟩
  | .hbm, ⟨60, _⟩ => ⟨S2048x32, .i32⟩
  | .hbm, ⟨61, _⟩ => ⟨S2048x32, .i32⟩
  | .hbm, ⟨62, _⟩ => ⟨S2048x32x1, .i32⟩
  | .hbm, ⟨63, _⟩ => ⟨S1, .i32⟩
  | .hbm, ⟨64, _⟩ => ⟨S_, .i32⟩
  | .hbm, ⟨65, _⟩ => ⟨S2048x32x1, .i32⟩
  | .hbm, ⟨66, _⟩ => ⟨S2048x32x1, .i1⟩
  | .hbm, ⟨67, _⟩ => ⟨S1x1x1, .i32⟩
  | .hbm, ⟨68, _⟩ => ⟨S2048x32x1, .i32⟩
  | .hbm, ⟨69, _⟩ => ⟨S2048x32x1, .i1⟩
  | .hbm, ⟨70, _⟩ => ⟨S2048x32x1, .i1⟩
  | .hbm, ⟨71, _⟩ => ⟨S_, .i1⟩
  | .hbm, ⟨72, _⟩ => ⟨S2048x32, .i1⟩
  | .hbm, ⟨73, _⟩ => ⟨S1x8x2048x32x128, .f32⟩
  | .hbm, ⟨74, _⟩ => ⟨S1x8x2048x32x128, .i1⟩
  | .hbm, ⟨75, _⟩ => ⟨S_, .f32⟩
  | .hbm, ⟨76, _⟩ => ⟨S1x8x2048x32x128, .f32⟩
  | .hbm, ⟨77, _⟩ => ⟨S1x8x2048x32x128, .f32⟩
  | .hbm, ⟨78, _⟩ => ⟨S1x8x2048x32, .f32⟩
  | .hbm, ⟨79, _⟩ => ⟨S_, .f32⟩
  | .hbm, ⟨80, _⟩ => ⟨S1x8x2048, .f32⟩
  | .hbm, ⟨81, _⟩ => ⟨S_, .f32⟩
  | .hbm, ⟨82, _⟩ => ⟨S1x8x2048, .f32⟩
  | .hbm, ⟨83, _⟩ => ⟨S1x8x2048, .f32⟩
  | .hbm, ⟨84, _⟩ => ⟨S1x8x2048x1, .f32⟩
  | .hbm, ⟨85, _⟩ => ⟨S1x8x2048x32, .f32⟩
  | .hbm, ⟨86, _⟩ => ⟨S1x8x2048x32, .f32⟩
  | .hbm, ⟨87, _⟩ => ⟨S1x8x2048x32, .f32⟩
  | .hbm, ⟨88, _⟩ => ⟨S_, .f32⟩
  | .hbm, ⟨89, _⟩ => ⟨S1x8x2048, .f32⟩
  | .hbm, ⟨90, _⟩ => ⟨S1x8x2048x1, .f32⟩
  | .hbm, ⟨91, _⟩ => ⟨S1x8x2048x32, .f32⟩
  | .hbm, ⟨92, _⟩ => ⟨S1x8x2048x32, .f32⟩
  | .hbm, ⟨93, _⟩ => ⟨S1x8x2048x128, .f32⟩
  | .hbm, ⟨94, _⟩ => ⟨S1x2048x8x128, .f32⟩
  | .hbm, ⟨95, _⟩ => ⟨S1x2048x1024, .f32⟩
  | .hbm, ⟨96, _⟩ => ⟨S1x2048x128, .f32⟩
  | .hbm, ⟨97, _⟩ => ⟨S1x1x128, .f32⟩
  | .hbm, ⟨98, _⟩ => ⟨S1x2048x128, .f32⟩
  | .hbm, ⟨99, _⟩ => ⟨S1x2048x128, .f32⟩
  | .hbm, ⟨100, _⟩ => ⟨S2048x128, .f32⟩
  | _, _ => ⟨S1x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v23 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v24 : Ref sig .tc := ⟨.hbm, 77, rfl⟩
abbrev main_v25 : Ref sig .tc := ⟨.hbm, 78, rfl⟩
abbrev main_cst_0 : Ref sig .tc := ⟨.hbm, 79, rfl⟩
abbrev main_v26 : Ref sig .tc := ⟨.hbm, 80, rfl⟩
abbrev main_cst_1 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_cst_2 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩

abbrev nD : Nat := 1
abbrev τ : Topo := Topo.v7x

variable {F : FTy → Type} [FloatOps F]
-- ==== Proof.Block.lean ====
module

public import Idealize.ShloMosaic.Lib.MatmulPlain
public import Idealize.ShloMosaic.Lib.Pipeline.Value
public import Idealize.ShloMosaic.Lib.ValueIdx
public import Idealize.ShloMosaic.Lib.ValueLayout
public import Idealize.ShloMosaic.PureOps.Ideal.Laws

/-! One block of banded attention rows, at any number of query rows and key rows: the operations the
    kernel's body performs on a block, and the block's elements as sums. -/

@[expose] public section

set_option maxRecDepth 16384

noncomputable section

namespace Cert.Band

open Idealize.ShloMosaic Idealize.ShloMosaic.ValueIdx

/-- The shape of an `a` by `b` matrix. -/
abbrev Mat (a b : Nat) : Shape := ⟨2, ![a, b]⟩

/-- Column `e` of head `h` among the 1024 columns of all heads. -/
def col (h : Fin 8) (e : Fin 128) : Fin 1024 := ⟨128 * h.val + e.val, by omega⟩

/-- The head a column belongs to. -/
def headOf (c : Fin 1024) : Fin 8 := ⟨c.val / 128, by omega⟩

/-- The place of a column inside its head. -/
def within (c : Fin 1024) : Fin 128 := ⟨c.val % 128, by omega⟩

theorem col_headOf (c : Fin 1024) : col (headOf c) (within c) = c :=
  Fin.ext (show 128 * (c.val / 128) + c.val % 128 = c.val by omega)

section Ops

variable {n m : Nat}

theorem slices_col (a : Nat) (h : Fin 8) : (Mat a 1024).Slices ![0, 128 * h.val] (Mat a 128) :=
  ⟨rfl, fun b => match b with
    | ⟨0, _⟩ => by show 0 + a ≤ a; omega
    | ⟨1, _⟩ => by show 128 * h.val + 128 ≤ 1024; omega⟩

/-- Head `h`'s 128 columns of a matrix that holds all heads side by side. -/
def cols {a : Nat} (x : FVec Ideal (Mat a 1024) .bf16) (h : Fin 8) : FVec Ideal (Mat a 128) .bf16 :=
  extractStridedSlice (Mat a 128) ![0, 128 * h.val] x (slices_col a h)

theorem cols_apply {a : Nat} (x : FVec Ideal (Mat a 1024) .bf16) (h : Fin 8) (r : Fin a) (e : Fin 128) :
    cols x h (ix2 r e) = x (ix2 r (col h e)) := by
  refine extractStridedSlice_apply _ x _ _ _ fun b => ?_
  match b with
  | ⟨0, _⟩ => exact (Nat.zero_add _).symm
  | ⟨1, _⟩ => rfl

/-- The unnormalised weights of one head: two to the score inside the band, two to the mask's value outside. -/
def weights (mask : Ideal .f32) (band : IVec (Mat n m) 1) (q : FVec Ideal (Mat n 128) .bf16)
    (k : FVec Ideal (Mat m 128) .bf16) : FVec Ideal (Mat n m) .f32 :=
  exp2 (select band (matmul (DotDims.transposedRhs n 128 m) none q k (constant (Mat n m) .f32 0x00000000#32))
    (broadcast (Mat n m) mask))

/-- One head's rows: the weighted sum of the values, times one over the sum of the weights. -/
def head (mask : Ideal .f32) (band : IVec (Mat n m) 1) (q : FVec Ideal (Mat n 128) .bf16)
    (k v : FVec Ideal (Mat m 128) .bf16) (hr : (Mat n m).Reduces [1] ⟨1, ![n]⟩)
    (hs : (⟨1, ![n]⟩ : Shape).ShapeCasts (Mat n 1)) (hb : (Mat n 1).Broadcasts (Mat n 128)) :
    FVec Ideal (Mat n 128) .f32 :=
  mulf
    (matmul (DotDims.plain n m 128) none (truncf .bf16 (weights mask band q k) (by decide)) v
      (constant (Mat n 128) .f32 0x00000000#32))
    (broadcastTo (Mat n 128)
      (divf (broadcast (Mat n 1) (Scalar.ofBits .f32 0x3F800000#32))
        (shapeCast (Mat n 1)
          (multiReduction .add [1] ⟨1, ![n]⟩ (weights mask band q k) 0x00000000#32 hr (.inl rfl) rfl) hs)) hb)

/-- A block's rows of the result: the eight heads side by side, times the output matrix, plus the bias. -/
def block (mask : Ideal .f32) (band : IVec (Mat n m) 1) (q : FVec Ideal (Mat n 1024) .bf16)
    (k v : FVec Ideal (Mat m 1024) .bf16) (wu : FVec Ideal (Mat 1024 128) .bf16) (bu : FVec Ideal (Mat 1 128) .f32)
    (hr : (Mat n m).Reduces [1] ⟨1, ![n]⟩)
    (hs : (⟨1, ![n]⟩ : Shape).ShapeCasts (Mat n 1)) (hb : (Mat n 1).Broadcasts (Mat n 128))
    (hc : Shape.Concatenates
      ((List.ofFn fun h : Fin 8 =>
        (⟨Mat n 128, head mask band (cols q h) (cols k h) (cols v h) hr hs hb⟩ : (s : Shape) × (s.Idx → Ideal .f32))).map (·.1))
      (Mat n 1024) 1)
    (hbu : (Mat 1 128).Broadcasts (Mat n 128)) :
    FVec Ideal (Mat n 128) .f32 :=
  addf
    (matmul (DotDims.plain n 1024 128) none
      (truncf .bf16
        (concatenate (Mat n 1024) 1
          (List.ofFn fun h : Fin 8 =>
            (⟨Mat n 128, head mask band (cols q h) (cols k h) (cols v h) hr hs hb⟩ : (s : Shape) × (s.Idx → Ideal .f32))) hc)
        (by decide)) wu (constant (Mat n 128) .f32 0x00000000#32))
    (broadcastTo (Mat n 128) bu hbu)

theorem zeroConst_apply {s : Shape} (i : s.Idx) : constant (F := Ideal) s .f32 0x00000000#32 i = 0 := by
  show Ideal.ofBits .f32 0x00000000#32 = 0
  simp [Ideal.ofBits, Ideal.ieee]

theorem oneConst : (Scalar.ofBits (F := Ideal) .f32 0x3F800000#32 : EReal) = 1 := by
  show Ideal.ofBits .f32 0x3F800000#32 = 1
  simp [Ideal.ofBits, Ideal.ieee, -EReal.coe_mul]; norm_num

theorem weights_apply (mask : Ideal .f32) (band : IVec (Mat n m) 1) (q : FVec Ideal (Mat n 128) .bf16)
    (k : FVec Ideal (Mat m 128) .bf16) (r : Fin n) (c : Fin m) :
    weights mask band q k (ix2 r c)
      = Ideal.exp2 (if band (ix2 r c) = 1#1 then ∑ e : Fin 128, q (ix2 r e) * k (ix2 c e) else mask) := by
  show Ideal.exp2 (Scalar.select (band (ix2 r c)) (FloatOps.matmul _ none q k _ (ix2 r c)) mask) = _
  rw [Ideal.matmul_transposedRhs_apply, zeroConst_apply, zero_add]
  rfl

theorem head_apply (mask : Ideal .f32) (band : IVec (Mat n m) 1) (q : FVec Ideal (Mat n 128) .bf16)
    (k v : FVec Ideal (Mat m 128) .bf16) (hr : (Mat n m).Reduces [1] ⟨1, ![n]⟩)
    (hs : (⟨1, ![n]⟩ : Shape).ShapeCasts (Mat n 1)) (hb : (Mat n 1).Broadcasts (Mat n 128)) (r : Fin n) (d : Fin 128) :
    head mask band q k v hr hs hb (ix2 r d)
      = (∑ c : Fin m, weights mask band q k (ix2 r c) * v (ix2 c d))
        * Ideal.div 1 (∑ c : Fin m, weights mask band q k (ix2 r c)) := by
  show FloatOps.matmul _ none _ v _ (ix2 r d) * broadcastTo (Mat n 128) _ hb (ix2 r d) = _
  rw [Ideal.matmul_plain_apply, zeroConst_apply, zero_add]
  refine congrArg₂ (· * ·) rfl ?_
  rw [broadcastTo_apply _ hb (ix2 r d) (ix2 r (0 : Fin 1)) (fun a => match a with
    | ⟨0, _⟩ => by
        show r.val = if n = 1 then 0 else r.val
        have := r.isLt
        split <;> omega
    | ⟨1, _⟩ => rfl)]
  show Ideal.div (Scalar.ofBits (F := Ideal) .f32 0x3F800000#32) (shapeCast (Mat n 1) _ hs (ix2 r (0 : Fin 1))) = _
  rw [oneConst, shapeCast_apply _ hs (ix2 r (0 : Fin 1)) (ix1 r) (by
    rw [Shape.rowMajor_val_two, Shape.rowMajor_val_one]; show r.val = r.val * 1 + 0; omega)]
  refine congrArg (Ideal.div 1) ?_
  refine (Ideal.multiReduction_add_single _ _ hr _ _ _).trans ?_
  refine Finset.sum_congr rfl fun c _ => congrArg _ ?_
  funext a
  match a with
  | ⟨0, _⟩ => rfl
  | ⟨1, _⟩ => rfl

/-- A block's element: over the columns of the eight heads, the head's normalised weighted sum of the values times the
    output matrix, plus the bias. -/
theorem block_apply (mask : Ideal .f32) (band : IVec (Mat n m) 1) (q : FVec Ideal (Mat n 1024) .bf16)
    (k v : FVec Ideal (Mat m 1024) .bf16) (wu : FVec Ideal (Mat 1024 128) .bf16) (bu : FVec Ideal (Mat 1 128) .f32)
    (hr : (Mat n m).Reduces [1] ⟨1, ![n]⟩)
    (hs : (⟨1, ![n]⟩ : Shape).ShapeCasts (Mat n 1)) (hb : (Mat n 1).Broadcasts (Mat n 128))
    (hc : Shape.Concatenates
      ((List.ofFn fun h : Fin 8 =>
        (⟨Mat n 128, head mask band (cols q h) (cols k h) (cols v h) hr hs hb⟩ : (s : Shape) × (s.Idx → Ideal .f32))).map (·.1))
      (Mat n 1024) 1)
    (hbu : (Mat 1 128).Broadcasts (Mat n 128)) (r : Fin n) (d : Fin 128) :
    block mask band q k v wu bu hr hs hb hc hbu (ix2 r d)
      = (∑ c : Fin 1024,
          ((∑ j : Fin m, weights mask band (cols q (headOf c)) (cols k (headOf c)) (ix2 r j) * v (ix2 j c))
            * Ideal.div 1 (∑ j : Fin m, weights mask band (cols q (headOf c)) (cols k (headOf c)) (ix2 r j)))
          * wu (ix2 c d)) + bu (ix2 (0 : Fin 1) d) := by
  show FloatOps.matmul _ none _ wu _ (ix2 r d) + broadcastTo (Mat n 128) bu hbu (ix2 r d) = _
  rw [Ideal.matmul_plain_apply, zeroConst_apply, zero_add]
  refine congrArg₂ (· + ·) (Finset.sum_congr rfl fun c _ => congrArg (· * wu (ix2 c d)) ?_) ?_
  · show concatenate (Mat n 1024) 1 _ hc (ix2 r c) = _
    rw [concatenate_ofFn_apply 1 _ hc rfl 128 rfl (ix2 r c) (headOf c) rfl (ix2 r (within c)) rfl
      (fun b hb' => match b with
        | ⟨0, _⟩ => rfl
        | ⟨1, _⟩ => absurd rfl hb'), head_apply]
    simp only [cols_apply, col_headOf]
  · exact broadcastTo_apply _ hbu (ix2 r d) (ix2 (0 : Fin 1) d) (fun a => match a with
    | ⟨0, _⟩ => rfl
    | ⟨1, _⟩ => rfl)

end Ops

end Cert.Band

end
-- ==== Proof.Pieces.lean ====
module

public import proofs.«01_k».proof.Proof.Gen.KernelIdeal.Value
public import proofs.«01_k».proof.Proof.Block
public import Idealize.ShloMosaic.Lib.Pipeline.Value

/-! The nine blocks of rows the kernel's body stores, each as a `block` of the queries, keys and values of all rows. -/

@[expose] public section

set_option maxRecDepth 16384

noncomputable section

namespace Cert.Band.Pieces

open Idealize.ShloMosaic Idealize.ShloMosaic.TcCoe Idealize.SL.Sem Idealize.ShloMosaic.ValueIdx
open Cert.KernelIdeal Cert.KernelIdeal.Gen
open Idealize.ShloMosaic.Tactic

theorem hz : (![0, 0] : Fin 2 → Nat) = fun _ => 0 := funext fun a => by fin_cases a <;> rfl

/-- The value the masked scores take. -/
abbrev maskVal : Ideal .f32 := Named.named κ "mask" 0xF149F2CA#32

theorem slices_rows {a o : Nat} (h : o + a ≤ 2048) : (Mat 2048 1024).Slices ![o, 0] (Mat a 1024) :=
  ⟨rfl, fun b => match b with
    | ⟨0, _⟩ => h
    | ⟨1, _⟩ => le_refl 1024⟩

/-- `a` consecutive rows from row `o`. -/
def rows (a o : Nat) (h : o + a ≤ 2048) (x : FVec Ideal (Mat 2048 1024) .bf16) : FVec Ideal (Mat a 1024) .bf16 :=
  extractStridedSlice (Mat a 1024) ![o, 0] x (slices_rows h)

/-- The 32 zero rows in front of the first row, then the first 224 rows. -/
def firstRows (x : FVec Ideal (Mat 2048 1024) .bf16) : FVec Ideal (Mat 256 1024) .bf16 :=
  concatenate (Mat 256 1024) 0 [⟨Mat 32 1024, (k0_pay8 : FVec Ideal S32x1024 .bf16)⟩, ⟨Mat 224 1024, rows 224 0 (by decide) x⟩]
    concatenates_S32x1024_S224x1024_S256x1024_d0

section
variable (Q K V : FVec Ideal (Mat 2048 1024) .bf16) (wu : FVec Ideal (Mat 1024 128) .bf16) (bu : FVec Ideal (Mat 1 128) .f32)

/-- The block of 224 rows from `o`, whose keys and values are `k` and `v`. -/
def shortBlock (o : Nat) (h : o + 224 ≤ 2048) (k v : FVec Ideal (Mat 256 1024) .bf16) : FVec Ideal (Mat 224 128) .f32 :=
  block maskVal k0_pay9 (rows 224 o h Q) k v wu bu reduces_S224x256_S224 shapeCasts_S224_S224x1
    broadcasts_S224x1_S224x128
    concatenates_S224x128_S224x128_S224x128_S224x128_S224x128_S224x128_S224x128_S224x128_S224x1024_d1
    broadcasts_S1x128_S224x128

/-- The last block, of 256 rows. -/
def longBlock : FVec Ideal (Mat 256 128) .f32 :=
  block maskVal k0_pay10 (rows 256 1792 (by decide) Q) (rows 288 1760 (by decide) K) (rows 288 1760 (by decide) V) wu bu
    reduces_S256x288_S256 shapeCasts_S256_S256x1
    broadcasts_S256x1_S256x128
    concatenates_S256x128_S256x128_S256x128_S256x128_S256x128_S256x128_S256x128_S256x128_S256x1024_d1
    broadcasts_S1x128_S256x128

/-- A block after the first: its keys and values start 32 rows before its queries. -/
def midBlock (o : Nat) (h : o + 224 ≤ 2048) (h' : o - 32 + 256 ≤ 2048) : FVec Ideal (Mat 224 128) .f32 :=
  shortBlock Q wu bu o h (rows 256 (o - 32) h' K) (rows 256 (o - 32) h' V)

theorem inb_short {o : Nat} (h : o + 224 ≤ 2048) :
    ∀ a, (![o, 0] : Fin 2 → Nat) a + (Mat 224 128).size a ≤ (Mat 2048 128).size a := fun a => match a with
  | ⟨0, _⟩ => h
  | ⟨1, _⟩ => le_refl 128

/-- The store of 224 rows from `o`. -/
def shortPiece (o : Nat) (h : o + 224 ≤ 2048) (x : FVec Ideal (Mat 224 128) .f32) : View.Piece (Elt Ideal) S2048x128 .f32 :=
  ⟨Rect.unit (s := S2048x128) ![o, 0] (Mat 224 128).size (inb_short h), x⟩

theorem inb_long :
    ∀ a, (![1792, 0] : Fin 2 → Nat) a + (Mat 256 128).size a ≤ (Mat 2048 128).size a := fun a => match a with
  | ⟨0, _⟩ => le_refl 2048
  | ⟨1, _⟩ => le_refl 128

/-- The stores of the body, the last one first. -/
def pieces : List (View.Piece (Elt Ideal) S2048x128 .f32) :=
  [⟨Rect.unit (s := S2048x128) ![1792, 0] (Mat 256 128).size inb_long, longBlock Q K V wu bu⟩,
    shortPiece 1568 (by decide) (midBlock Q K V wu bu 1568 (by decide) (by decide)),
    shortPiece 1344 (by decide) (midBlock Q K V wu bu 1344 (by decide) (by decide)),
    shortPiece 1120 (by decide) (midBlock Q K V wu bu 1120 (by decide) (by decide)),
    shortPiece 896 (by decide) (midBlock Q K V wu bu 896 (by decide) (by decide)),
    shortPiece 672 (by decide) (midBlock Q K V wu bu 672 (by decide) (by decide)),
    shortPiece 448 (by decide) (midBlock Q K V wu bu 448 (by decide) (by decide)),
    shortPiece 224 (by decide) (midBlock Q K V wu bu 224 (by decide) (by decide)),
    shortPiece 0 (by decide) (shortBlock Q wu bu 0 (by decide) (firstRows K) (firstRows V))]

end

/-- What the body leaves in the output's buffer: its nine stores. -/
theorem out_eq (c : Dev nD) (arg0 : Memref sig .tc .vmem S2048x128 .bf16) (harg0 : arg0.IsWhole) (arg1 : Memref sig .tc .vmem S128x1024 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S2048x128 .f32) (harg6 : arg6.IsWhole)
    (x0 : Vec Ideal S2048x128 .bf16) (x1 : Vec Ideal S128x1024 .f32) (x2 : Vec Ideal S128x1024 .bf16) (x3 : Vec Ideal S128x1024 .bf16) (x4 : Vec Ideal S1024x128 .bf16) (x5 : Vec Ideal S1x128 .f32) :
    out0_A_6 (F := Ideal) c arg0 harg0 arg1 harg1 arg2 harg2 arg3 harg3 arg4 harg4 arg5 harg5 arg6 harg6 x0 x1 x2 x3 x4 x5
      = View.canon (pieces (k0_pay3 x0 x1) (k0_pay4 x0 x2) (k0_pay5 x0 x3) (k0_pay6 x4) (k0_pay7 x5)) := by
  unfold out0_A_6
  rw [View.read_writes_eq_canon _ _ _ (cover0_A_6 c arg0 harg0 arg1 harg1 arg2 harg2 arg3 harg3 arg4 harg4 arg5 harg5 arg6 harg6 x0 x1 x2 x3 x4 x5)]
  unfold kernelRun0_A
  dsimp only
  sl_unfold_words
  simp only [View.readAt_eq_ld, harg0.read_unread, harg1.read_unread, harg2.read_unread, harg3.read_unread,
    harg4.read_unread, harg5.read_unread, View.ld_unit_zero (S := S2048x128) hz, View.ld_unit_zero (S := S128x1024) hz,
    View.ld_unit_zero (S := S1024x128) hz, View.ld_unit_zero (S := S1x128) hz]
  generalize k0_pay3 x0 x1 = Q
  generalize k0_pay4 x0 x2 = K
  generalize k0_pay5 x0 x3 = V
  generalize k0_pay6 x4 = wu
  generalize k0_pay7 x5 = bu
  rfl

end Cert.Band.Pieces

end
-- ==== Proof.Window.lean ====
module

public import proofs.«01_k».proof.Proof.Block

/-! A block's rows no longer speak of the block: a row of the result depends on its query row and on the 32 key and
    value rows of its window, wherever the block starts. -/

@[expose] public section

set_option maxRecDepth 16384

noncomputable section

namespace Cert.Band

open Idealize.ShloMosaic Idealize.ShloMosaic.ValueIdx

/-- Row `t` of the 31 zero rows followed by the rows of `x`. -/
def padRow (x : FVec Ideal (Mat 2048 1024) .bf16) (t : Nat) (c : Fin 1024) : EReal :=
  if h : 31 ≤ t ∧ t - 31 < 2048 then x (ix2 ⟨t - 31, h.2⟩ c) else 0

/-- The rows of `x` times the columns of `w`. -/
def proj (x : FVec Ideal ⟨3, ![1, 2048, 128]⟩ .f32) (w : FVec Ideal (Mat 128 1024) .f32) : FVec Ideal (Mat 2048 1024) .bf16 := fun i =>
  ∑ k : Fin 128, x (ix3 (0 : Fin 1) (i 0) k) * w (ix2 k (i 1))

/-- The weight of window place `i` of row `t` in head `h`. -/
def weight (Q K : FVec Ideal (Mat 2048 1024) .bf16) (t : Fin 2048) (h : Fin 8) (i : Fin 32) : EReal :=
  Ideal.exp2 (∑ e : Fin 128, Q (ix2 t (col h e)) * padRow K (t.val + i.val) (col h e))

/-- The attended value of row `t` at column `c`. -/
def attended (Q K V : FVec Ideal (Mat 2048 1024) .bf16) (t : Fin 2048) (c : Fin 1024) : EReal :=
  (∑ i : Fin 32, weight Q K t (headOf c) i * padRow V (t.val + i.val) c)
    * Ideal.div 1 (∑ i : Fin 32, weight Q K t (headOf c) i)

/-- The result's row `t` at column `d`. -/
def result (Q K V : FVec Ideal (Mat 2048 1024) .bf16) (wu : FVec Ideal (Mat 1024 128) .bf16)
    (bu : FVec Ideal (Mat 1 128) .f32) (t : Fin 2048) (d : Fin 128) : EReal :=
  (∑ c : Fin 1024, attended Q K V t c * wu (ix2 c d)) + bu (ix2 (0 : Fin 1) d)

/-- A sum over key rows whose terms vanish outside the band is the sum over the 32 places of the window. -/
theorem sum_band {n m : Nat} (hm : m = n + 32) (r : Fin n) (f : Fin m → EReal) (g : Fin 32 → EReal)
    (h0 : ∀ j : Fin m, ¬(r.val + 1 ≤ j.val ∧ j.val ≤ r.val + 32) → f j = 0)
    (h1 : ∀ (i : Fin 32) (j : Fin m), j.val = r.val + 1 + i.val → f j = g i) :
    ∑ j : Fin m, f j = ∑ i : Fin 32, g i := by
  have hlt : ∀ i : Fin 32, r.val + 1 + i.val < m := fun i => by omega
  refine (Fintype.sum_of_injective (fun i : Fin 32 => (⟨r.val + 1 + i.val, hlt i⟩ : Fin m)) ?_ g f ?_ ?_).symm
  · intro a b hab
    have := congrArg Fin.val hab
    simp only at this
    exact Fin.ext (by omega)
  · intro j hj
    refine h0 j fun hb => hj ⟨⟨j.val - (r.val + 1), by omega⟩, Fin.ext ?_⟩
    show r.val + 1 + (j.val - (r.val + 1)) = j.val
    omega
  · intro i
    exact (h1 i _ rfl).symm

section

variable {n m : Nat} (mask : Ideal .f32) (band : IVec (Mat n m) 1) (q : FVec Ideal (Mat n 1024) .bf16)
  (k v : FVec Ideal (Mat m 1024) .bf16) (wu : FVec Ideal (Mat 1024 128) .bf16) (bu : FVec Ideal (Mat 1 128) .f32)
  (Q K V : FVec Ideal (Mat 2048 1024) .bf16) (o : Nat)

/-- The block that starts at row `o` holds the result's rows from `o`, when its queries, keys and values are the
    whole matrices' rows from `o` and its band is the window's. -/
theorem block_result
    (hr : (Mat n m).Reduces [1] ⟨1, ![n]⟩)
    (hs : (⟨1, ![n]⟩ : Shape).ShapeCasts (Mat n 1)) (hb : (Mat n 1).Broadcasts (Mat n 128))
    (hc : Shape.Concatenates
      ((List.ofFn fun h : Fin 8 =>
        (⟨Mat n 128, head mask band (cols q h) (cols k h) (cols v h) hr hs hb⟩ : (s : Shape) × (s.Idx → Ideal .f32))).map (·.1))
      (Mat n 1024) 1)
    (hbu : (Mat 1 128).Broadcasts (Mat n 128))
    (hm : m = n + 32) (hmask : mask = (⊥ : EReal))
    (hband : ∀ (r : Fin n) (j : Fin m), band (ix2 r j) = 1#1 ↔ r.val + 1 ≤ j.val ∧ j.val ≤ r.val + 32)
    (hq : ∀ (r : Fin n) (t : Fin 2048) (c : Fin 1024), t.val = o + r.val → q (ix2 r c) = Q (ix2 t c))
    (hk : ∀ (j : Fin m) (c : Fin 1024), k (ix2 j c) = padRow K (o + j.val - 1) c)
    (hv : ∀ (j : Fin m) (c : Fin 1024), v (ix2 j c) = padRow V (o + j.val - 1) c)
    (r : Fin n) (d : Fin 128) (t : Fin 2048) (ht : t.val = o + r.val) :
    block mask band q k v wu bu hr hs hb hc hbu (ix2 r d) = result Q K V wu bu t d := by
  have hin : ∀ (h : Fin 8) (i : Fin 32) (j : Fin m), j.val = r.val + 1 + i.val →
      weights mask band (cols q h) (cols k h) (ix2 r j) = weight Q K t h i := by
    intro h i j hj
    rw [weights_apply, if_pos ((hband r j).2 (by omega))]
    unfold weight
    refine congrArg Ideal.exp2 (Finset.sum_congr rfl fun e _ => ?_)
    rw [cols_apply, cols_apply, hq r t _ ht, hk, show o + j.val - 1 = t.val + i.val by omega]
  have hout : ∀ (h : Fin 8) (j : Fin m), ¬(r.val + 1 ≤ j.val ∧ j.val ≤ r.val + 32) →
      weights mask band (cols q h) (cols k h) (ix2 r j) = 0 := by
    intro h j hj
    rw [weights_apply, if_neg fun hc => hj ((hband r j).1 hc), hmask]
    rfl
  rw [block_apply]
  unfold result attended
  refine congrArg (· + bu (ix2 (0 : Fin 1) d)) (Finset.sum_congr rfl fun c _ => congrArg (· * wu (ix2 c d)) ?_)
  rw [sum_band hm r _ (fun i => weight Q K t (headOf c) i) (hout (headOf c)) (hin (headOf c)),
    sum_band hm r _ (fun i => weight Q K t (headOf c) i * padRow V (t.val + i.val) c)
      (fun j hj => by rw [hout _ j hj, zero_mul])
      (fun i j hj => by rw [hin _ i j hj, hv, show o + j.val - 1 = t.val + i.val by omega])]

end

end Cert.Band

end
-- ==== Proof.Rows.lean ====
module

public import proofs.«01_k».proof.Proof.Pieces
public import proofs.«01_k».proof.Proof.Window
public import Idealize.ShloMosaic.Lib.Affine

/-! The nine stores read at an index of the output: `result` at every row. -/

@[expose] public section

set_option maxRecDepth 16384

noncomputable section

namespace Cert.Band.Pieces

open Idealize.ShloMosaic Idealize.ShloMosaic.TcCoe Idealize.SL.Sem Idealize.ShloMosaic.ValueIdx
open Cert.KernelIdeal Cert.KernelIdeal.Gen

/-- The mask's value is minus infinity. -/
theorem maskVal_eq : maskVal = (⊥ : EReal) :=
  IdealRules.named_const.ideal_named_scalar _ _ _ _ rfl

/-- A small natural number, as a word, reads as itself. -/
theorem toInt_small {n : Nat} (h : n < 2 ^ 31) : (BitVec.ofNat 32 n).toInt = n := by
  rw [BitVec.toInt_eq_toNat_cond, BitVec.toNat_ofNat]
  have h' : n % 2 ^ 32 = n := Nat.mod_eq_of_lt (by omega)
  rw [h', if_pos (by omega)]

/-- The band's two comparisons, of small numbers. -/
theorem band_words {a b : Nat} (ha : a < 1024) (hb : b < 1024) :
    IntOp.andi (IntOp.cmpi .sge (BitVec.ofNat 32 b) (IntOp.addi (BitVec.ofNat 32 a) 1#32))
      (IntOp.cmpi .sle (BitVec.ofNat 32 b) (IntOp.addi (BitVec.ofNat 32 a) 32#32)) = 1#1
      ↔ a + 1 ≤ b ∧ b ≤ a + 32 := by
  have e1 : IntOp.addi (BitVec.ofNat 32 a) 1#32 = BitVec.ofNat 32 (a + 1) := BitVec.ofNat_add_ofNat ..
  have e2 : IntOp.addi (BitVec.ofNat 32 a) 32#32 = BitVec.ofNat 32 (a + 32) := BitVec.ofNat_add_ofNat ..
  rw [IntOp.andi_eq_one, IntOp.cmpi_sge, IntOp.cmpi_sle, e1, e2, toInt_small (by omega), toInt_small (by omega),
    toInt_small (by omega)]
  omega

theorem band_short (r : Fin 224) (j : Fin 256) :
    k0_pay9 (ix2 r j) = 1#1 ↔ r.val + 1 ≤ j.val ∧ j.val ≤ r.val + 32 := by
  unfold k0_pay9
  show IntOp.andi (IntOp.cmpi .sge (iota .tc S224x256 32 [1] _ (ix2 r j)) (IntOp.addi (iota .tc S224x256 32 [0] _ (ix2 r j)) 1#32))
      (IntOp.cmpi .sle (iota .tc S224x256 32 [1] _ (ix2 r j)) (IntOp.addi (iota .tc S224x256 32 [0] _ (ix2 r j)) 32#32)) = 1#1 ↔ _
  rw [iota_single_apply, iota_single_apply]
  exact band_words (by have := r.isLt; show r.val < 1024; omega) (by have := j.isLt; show j.val < 1024; omega)

theorem band_long (r : Fin 256) (j : Fin 288) :
    k0_pay10 (ix2 r j) = 1#1 ↔ r.val + 1 ≤ j.val ∧ j.val ≤ r.val + 32 := by
  unfold k0_pay10
  show IntOp.andi (IntOp.cmpi .sge (iota .tc S256x288 32 [1] _ (ix2 r j)) (IntOp.addi (iota .tc S256x288 32 [0] _ (ix2 r j)) 1#32))
      (IntOp.cmpi .sle (iota .tc S256x288 32 [1] _ (ix2 r j)) (IntOp.addi (iota .tc S256x288 32 [0] _ (ix2 r j)) 32#32)) = 1#1 ↔ _
  rw [iota_single_apply, iota_single_apply]
  exact band_words (by have := r.isLt; show r.val < 1024; omega) (by have := j.isLt; show j.val < 1024; omega)

theorem rows_apply {a o : Nat} (h : o + a ≤ 2048) (x : FVec Ideal (Mat 2048 1024) .bf16) (r : Fin a) (c : Fin 1024)
    (t : Fin 2048) (ht : t.val = o + r.val) : rows a o h x (ix2 r c) = x (ix2 t c) :=
  extractStridedSlice_apply _ x _ _ _ fun b => match b with
    | ⟨0, _⟩ => ht
    | ⟨1, _⟩ => (Nat.zero_add _).symm

/-- Rows from 32 before row `o` are the padded rows from `o - 1`. -/
theorem rows_pad {a o : Nat} (ho : 32 ≤ o) (h : o - 32 + a ≤ 2048) (x : FVec Ideal (Mat 2048 1024) .bf16) (j : Fin a) (c : Fin 1024) :
    rows a (o - 32) h x (ix2 j c) = padRow x (o + j.val - 1) c := by
  have hj := j.isLt
  unfold padRow
  rw [dif_pos ⟨by omega, by omega⟩]
  exact rows_apply h x j c _ (by show o + j.val - 1 - 31 = o - 32 + j.val; omega)

theorem zeros_apply (i : S32x1024.Idx) : (k0_pay8 : FVec Ideal S32x1024 .bf16) i = (0 : EReal) := by
  unfold k0_pay8
  show Ideal.ofBits .bf16 0x0000#16 = 0
  simp [Ideal.ofBits, Ideal.ieee]

/-- The 32 zero rows and then the first rows are the padded rows. -/
theorem firstRows_pad (x : FVec Ideal (Mat 2048 1024) .bf16) (j : Fin 256) (c : Fin 1024) :
    firstRows x (ix2 j c) = padRow x (0 + j.val - 1) c := by
  have hj := j.isLt
  unfold firstRows padRow
  by_cases h : j.val < 32
  · rw [dif_neg (by omega)]
    exact (concatenate_pair_apply_left (s₁ := Mat 32 1024) (s₂ := Mat 224 1024) 0 _ _ _ (ix2 j c) rfl (ix2 (⟨j.val, h⟩ : Fin 32) c) (fun b => match b with
      | ⟨0, _⟩ => rfl
      | ⟨1, _⟩ => rfl)).trans (zeros_apply _)
  · rw [dif_pos ⟨by omega, by omega⟩]
    refine (concatenate_pair_apply_right (s₁ := Mat 32 1024) (s₂ := Mat 224 1024) 0 _ _ _ (ix2 j c) rfl rfl (ix2 (⟨j.val - 32, by omega⟩ : Fin 224) c) (fun b hb => match b with
      | ⟨0, _⟩ => absurd rfl hb
      | ⟨1, _⟩ => rfl) (by show j.val - 32 + 32 = j.val; omega)).trans ?_
    exact rows_apply _ x _ c _ (by show 0 + j.val - 1 - 31 = 0 + (j.val - 32); omega)

section
variable (Q K V : FVec Ideal (Mat 2048 1024) .bf16) (wu : FVec Ideal (Mat 1024 128) .bf16) (bu : FVec Ideal (Mat 1 128) .f32)

/-- The result as an array. -/
def resultArr : FVec Ideal (Mat 2048 128) .f32 := fun i => result Q K V wu bu (i 0) (i 1)

/-- A store of 224 rows stores the result's rows when its keys and values are the padded rows. -/
theorem short_ok (o : Nat) (h : o + 224 ≤ 2048) (k v : FVec Ideal (Mat 256 1024) .bf16)
    (hk : ∀ (j : Fin 256) (c : Fin 1024), k (ix2 j c) = padRow K (o + j.val - 1) c)
    (hv : ∀ (j : Fin 256) (c : Fin 1024), v (ix2 j c) = padRow V (o + j.val - 1) c) :
    let p := shortPiece o h (shortBlock Q wu bu o h k v)
    ∀ x : p.1.shape.Idx, p.2 x = resultArr Q K V wu bu (p.1.emb x) := by
  intro p x
  have hx : (x 0).val < 224 := (x 0).isLt
  have hx' : (x 1).val < 128 := (x 1).isLt
  have ex : x = ix2 (⟨(x 0).val, hx⟩ : Fin 224) (⟨(x 1).val, hx'⟩ : Fin 128) := eq_ix2 x
  have e0 : ((p.1.emb x) 0).val = o + (x 0).val := by
    show o + 1 * (x 0).val = _; omega
  have e1 : (p.1.emb x) 1 = (⟨(x 1).val, hx'⟩ : Fin 128) := Fin.ext (by
    show 0 + 1 * (x 1).val = (x 1).val; omega)
  unfold resultArr
  rw [e1]
  refine (congrArg p.2 ex).trans ?_
  exact block_result maskVal k0_pay9 _ k v wu bu Q K V o _ _ _ _ _ rfl maskVal_eq band_short
    (fun r t c ht => rows_apply h Q r c t ht) hk hv _ _ _ e0

theorem mid_ok (o : Nat) (ho : 32 ≤ o) (h : o + 224 ≤ 2048) (h' : o - 32 + 256 ≤ 2048) :
    let p := shortPiece o h (midBlock Q K V wu bu o h h')
    ∀ x : p.1.shape.Idx, p.2 x = resultArr Q K V wu bu (p.1.emb x) :=
  short_ok Q K V wu bu o h _ _ (rows_pad ho h' K) (rows_pad ho h' V)

theorem long_ok :
    let p : View.Piece (Elt Ideal) S2048x128 .f32 :=
      ⟨Rect.unit (s := S2048x128) ![1792, 0] (Mat 256 128).size inb_long, longBlock Q K V wu bu⟩
    ∀ x : p.1.shape.Idx, p.2 x = resultArr Q K V wu bu (p.1.emb x) := by
  intro p x
  have hx : (x 0).val < 256 := (x 0).isLt
  have hx' : (x 1).val < 128 := (x 1).isLt
  have ex : x = ix2 (⟨(x 0).val, hx⟩ : Fin 256) (⟨(x 1).val, hx'⟩ : Fin 128) := eq_ix2 x
  have e0 : ((p.1.emb x) 0).val = 1792 + (x 0).val := by
    show 1792 + 1 * (x 0).val = _; omega
  have e1 : (p.1.emb x) 1 = (⟨(x 1).val, hx'⟩ : Fin 128) := Fin.ext (by
    show 0 + 1 * (x 1).val = (x 1).val; omega)
  unfold resultArr
  rw [e1]
  refine (congrArg p.2 ex).trans ?_
  exact block_result maskVal k0_pay10 _ _ _ wu bu Q K V 1792 _ _ _ _ _ rfl maskVal_eq band_long
    (fun r t c ht => rows_apply _ Q r c t ht) (rows_pad (o := 1792) (by decide) (by decide) K)
    (rows_pad (o := 1792) (by decide) (by decide) V) _ _ _ e0

/-- Row `i 0` lies in the store of 224 rows from `o`. -/
theorem mem_short (o : Nat) (h : o + 224 ≤ 2048) (b : FVec Ideal (Mat 224 128) .f32) (i : S2048x128.Idx)
    (hi : o ≤ (i 0).val ∧ (i 0).val < o + 224) : i ∈ (shortPiece o h b).1.set := by
  show i ∈ (Rect.unit (s := S2048x128) ![o, 0] (Mat 224 128).size (inb_short h)).set
  rw [Rect.mem_set_unit]
  intro a
  match a with
  | ⟨0, _⟩ => exact hi
  | ⟨1, _⟩ => exact ⟨Nat.zero_le _, by have : (i 1).val < 128 := (i 1).isLt; show (i 1).val < 0 + 128; omega⟩

/-- The nine stores leave the result. -/
theorem canon_pieces : View.canon (pieces Q K V wu bu) = resultArr Q K V wu bu := by
  funext i
  refine View.canon_apply_of_pieces (Val := Elt Ideal) (S := S2048x128) (e := .f32) (resultArr Q K V wu bu) _ ?_ i ?_
  · unfold pieces
    simp only [List.forall_mem_cons]
    exact ⟨long_ok Q K V wu bu, mid_ok Q K V wu bu 1568 (by decide) _ _, mid_ok Q K V wu bu 1344 (by decide) _ _,
      mid_ok Q K V wu bu 1120 (by decide) _ _, mid_ok Q K V wu bu 896 (by decide) _ _,
      mid_ok Q K V wu bu 672 (by decide) _ _, mid_ok Q K V wu bu 448 (by decide) _ _,
      mid_ok Q K V wu bu 224 (by decide) _ _,
      short_ok Q K V wu bu 0 (by decide) _ _ (firstRows_pad K) (firstRows_pad V), fun p hp => absurd hp List.not_mem_nil⟩
  · have hi : (i 0).val < 2048 := (i 0).isLt
    have hl : 1792 ≤ (i 0).val → i ∈ (Rect.unit (s := S2048x128) ![1792, 0] (Mat 256 128).size inb_long).set := by
      intro h
      rw [Rect.mem_set_unit]
      intro a
      match a with
      | ⟨0, _⟩ => exact ⟨h, by show (i 0).val < 1792 + 256; omega⟩
      | ⟨1, _⟩ => exact ⟨Nat.zero_le _, by have : (i 1).val < 128 := (i 1).isLt; show (i 1).val < 0 + 128; omega⟩
    unfold pieces
    simp only [List.exists_mem_cons_iff]
    by_cases h : 1792 ≤ (i 0).val
    · exact Or.inl (hl h)
    refine Or.inr ?_
    by_cases h : 1568 ≤ (i 0).val
    · exact Or.inl (mem_short _ _ _ i (by omega))
    refine Or.inr ?_
    by_cases h : 1344 ≤ (i 0).val
    · exact Or.inl (mem_short _ _ _ i (by omega))
    refine Or.inr ?_
    by_cases h : 1120 ≤ (i 0).val
    · exact Or.inl (mem_short _ _ _ i (by omega))
    refine Or.inr ?_
    by_cases h : 896 ≤ (i 0).val
    · exact Or.inl (mem_short _ _ _ i (by omega))
    refine Or.inr ?_
    by_cases h : 672 ≤ (i 0).val
    · exact Or.inl (mem_short _ _ _ i (by omega))
    refine Or.inr ?_
    by_cases h : 448 ≤ (i 0).val
    · exact Or.inl (mem_short _ _ _ i (by omega))
    refine Or.inr ?_
    by_cases h : 224 ≤ (i 0).val
    · exact Or.inl (mem_short _ _ _ i (by omega))
    exact Or.inr (Or.inl (mem_short _ _ _ i (by omega)))

end

end Cert.Band.Pieces

end
-- ==== Proof.Array.lean ====
module

public import proofs.«01_k».proof.Proof.Rows

/-! The kernel's result array, as a function of the arguments. -/

@[expose] public section

set_option maxRecDepth 16384

noncomputable section

namespace Cert.Band.Array

open Idealize.ShloMosaic Idealize.ShloMosaic.TcCoe Idealize.SL.Sem Idealize.ShloMosaic.ValueIdx
open Idealize.ShloMosaic.Pipeline (Dat)
open Cert.KernelIdeal Cert.KernelIdeal.Gen Cert.Band.Pieces

/-! ### The three products -/

/-- The number the queries' weights are scaled by. -/
def scaleVal : ℝ := (Real.sqrt 128)⁻¹ * (Real.log 2)⁻¹

theorem scale_eq : (Named.named κ "scale" 0x3E0293EE#32 : Ideal .f32) = (scaleVal : EReal) :=
  IdealRules.named_const.ideal_named_scalar _ _ _ _ rfl

theorem query_apply (x : FVec Ideal S2048x128 .bf16) (w : FVec Ideal S128x1024 .f32) (t : Fin 2048) (c : Fin 1024) :
    k0_pay3 x w (ix2 t c) = ∑ k : Fin 128, x (ix2 t k) * (w (ix2 k c) * (scaleVal : EReal)) := by
  unfold k0_pay3 k0_pay2
  rw [shapeCast_self]
  show FloatOps.matmul (DotDims.plain 2048 128 1024) none x _ _ (ix2 t c) = _
  rw [Ideal.matmul_plain_apply, zeroConst_apply, zero_add]
  refine Finset.sum_congr rfl fun k _ => congrArg (x (ix2 t k) * ·) ?_
  show w (ix2 k c) * Named.named κ "scale" 0x3E0293EE#32 = _
  rw [scale_eq]

theorem key_apply (x : FVec Ideal S2048x128 .bf16) (w : FVec Ideal S128x1024 .bf16) (t : Fin 2048) (c : Fin 1024) :
    k0_pay4 x w (ix2 t c) = ∑ k : Fin 128, x (ix2 t k) * w (ix2 k c) := by
  unfold k0_pay4 k0_pay2
  rw [shapeCast_self, shapeCast_self]
  show FloatOps.matmul (DotDims.plain 2048 128 1024) none x w _ (ix2 t c) = _
  rw [Ideal.matmul_plain_apply, zeroConst_apply, zero_add]

theorem value_apply (x : FVec Ideal S2048x128 .bf16) (w : FVec Ideal S128x1024 .bf16) (t : Fin 2048) (c : Fin 1024) :
    k0_pay5 x w (ix2 t c) = ∑ k : Fin 128, x (ix2 t k) * w (ix2 k c) := key_apply x w t c

/-! ### The arrays the region reads -/

variable (m : (ℓ : Loc nD τ sig) → Buf (Elt Ideal) ℓ) (ρ : Dev nD → PrngReg) (c : Dev nD)

/-- Reading from offset zero with stride one reads the element of the same coordinates. -/
theorem read_zero {b : Ref sig .tc} (r : Rect b.ty.shape) (h : ∀ a, r.off a = 0 ∧ r.stride a = 1)
    (f : b.ty.Contents (Elt Ideal)) (x : r.shape.Idx) (y : b.ty.shape.Idx) (hy : ∀ a, (y a).val = (x a).val) :
    ((View.whole b).slice r).read (Elt Ideal) f x = f y :=
  congrArg f (funext fun a => Fin.ext (by
    show r.off a + r.stride a * (x a).val = _
    rw [(h a).1, (h a).2, hy a]; omega))

/-- A one-point window over a whole array reads the array. -/
theorem iblk0 (t : Fin cfg0.N) : iblk m c 0 t = V m c main_v1 := by
  rcases fin_N0 t with rfl
  exact funext fun i => read_zero (b := main_v1) (win0_0.rect t0_0) (by decide +kernel) (V m c main_v1) i i fun _ => rfl
theorem iblk1 (t : Fin cfg0.N) : iblk m c 1 t = V m c main_arg1 := by
  rcases fin_N0 t with rfl
  exact funext fun i => read_zero (b := main_arg1) (win0_1.rect t0_0) (by decide +kernel) (V m c main_arg1) i i fun _ => rfl
theorem iblk2 (t : Fin cfg0.N) : iblk m c 2 t = V m c main_v2 := by
  rcases fin_N0 t with rfl
  exact funext fun i => read_zero (b := main_v2) (win0_2.rect t0_0) (by decide +kernel) (V m c main_v2) i i fun _ => rfl
theorem iblk3 (t : Fin cfg0.N) : iblk m c 3 t = V m c main_v3 := by
  rcases fin_N0 t with rfl
  exact funext fun i => read_zero (b := main_v3) (win0_3.rect t0_0) (by decide +kernel) (V m c main_v3) i i fun _ => rfl
theorem iblk4 (t : Fin cfg0.N) : iblk m c 4 t = V m c main_v4 := by
  rcases fin_N0 t with rfl
  exact funext fun i => read_zero (b := main_v4) (win0_4.rect t0_0) (by decide +kernel) (V m c main_v4) i i fun _ => rfl
theorem iblk5 (t : Fin cfg0.N) : iblk m c 5 t = V m c main_v5 := by
  rcases fin_N0 t with rfl
  exact funext fun i => read_zero (b := main_v5) (win0_5.rect t0_0) (by decide +kernel) (V m c main_v5) i i fun _ => rfl

/-- The kernel's result, as a function of the six arguments. -/
def kernelFn (x : FVec Ideal S1x2048x128 .f32) (wq wk wv : FVec Ideal S128x1024 .f32) (wu : FVec Ideal S1024x128 .f32)
    (bu : FVec Ideal S128 .f32) : FVec Ideal (Mat 2048 128) .f32 :=
  let x' : FVec Ideal S2048x128 .bf16 := shapeCast S2048x128 x shapeCasts_S1x2048x128_S2048x128
  resultArr (k0_pay3 x' wq) (k0_pay4 x' wk) (k0_pay5 x' wv) wu (shapeCast S1x128 bu shapeCasts_S128_S1x128)

/-- The same at device `c`'s arguments. -/
abbrev G : Buf (Elt Ideal) ((c : Thread nD τ).loc main_v6) :=
  kernelFn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V1 : V m c main_v1 = shapeCast S2048x128 (m ((c : Thread nD τ).loc main_arg0)) shapeCasts_S1x2048x128_S2048x128 := by
  show StableHlo.after hostOps0 _ _ = _
  after_results
  rfl
theorem V2 : V m c main_v2 = m ((c : Thread nD τ).loc main_arg2) := by
  show StableHlo.after hostOps0 _ _ = _
  after_results
  rfl
theorem V3 : V m c main_v3 = m ((c : Thread nD τ).loc main_arg3) := by
  show StableHlo.after hostOps0 _ _ = _
  after_results
  rfl
theorem V4 : V m c main_v4 = m ((c : Thread nD τ).loc main_arg4) := by
  show StableHlo.after hostOps0 _ _ = _
  after_results
  rfl
theorem V5 : V m c main_v5 = shapeCast S1x128 (m ((c : Thread nD τ).loc main_arg5)) shapeCasts_S128_S1x128 := by
  show StableHlo.after hostOps0 _ _ = _
  after_results
  rfl

theorem flushed_eq (t : Fin cfg0.N) :
    (dats m 0 c).flushed 6 t = (win0_6.blk t).view.read (Elt Ideal) (G m c) := by
  rw [Value.flushed6_A, out_eq, canon_pieces, iblk0, iblk1, iblk2, iblk3, iblk4, iblk5, V_main_arg1, V1, V2, V3, V4, V5]
  unfold k0_pay6 k0_pay7
  rw [shapeCast_self, shapeCast_self]
  rcases fin_N0 t with rfl
  exact funext fun i => (read_zero (b := main_v6) (win0_6.rect t0_0) (by decide +kernel) (G m c) i i fun _ => rfl).symm

theorem mem_blk (t : Fin cfg0.N) (i : S2048x128.Idx) : i ∈ ((cfg0.win 6).blk t).view.set := by
  show i ∈ ((View.whole main_v6).slice (win0_6.rect t)).set
  rw [View.set_slice_whole, Rect.mem_set_unit]
  have e : win0_6.index t 0 * win0_6.size 0 = 0 ∧ win0_6.xsize (grid0.coords t) 0 = 2048
      ∧ win0_6.index t 1 * win0_6.size 1 = 0 ∧ win0_6.xsize (grid0.coords t) 1 = 128 := by
    rcases fin_N0 t with rfl; decide +kernel
  intro a
  match a with
  | ⟨0, _⟩ =>
    show win0_6.index t 0 * win0_6.size 0 ≤ (i 0 : Nat) ∧ (i 0 : Nat) < win0_6.index t 0 * win0_6.size 0 + win0_6.xsize (grid0.coords t) 0
    rw [e.1, e.2.1]
    have : (i 0).val < 2048 := (i 0).isLt
    omega
  | ⟨1, _⟩ =>
    show win0_6.index t 1 * win0_6.size 1 ≤ (i 1 : Nat) ∧ (i 1 : Nat) < win0_6.index t 1 * win0_6.size 1 + win0_6.xsize (grid0.coords t) 1
    rw [e.2.2.1, e.2.2.2]
    have : (i 1).val < 128 := (i 1).isLt
    omega

theorem cover (i : S2048x128.Idx) : ∃ t : Fin cfg0.N, (cfg0.win 6).flush t = true ∧ i ∈ ((cfg0.win 6).blk t).view.set := by
  have hN : cfg0.N = 1 := N_0
  exact ⟨⟨0, by omega⟩, flush0_6 _, mem_blk _ i⟩

theorem final : (dats m 0 c).arrAt 6 cfg0.N = G m c :=
  (dats m 0 c).arrAt_eq_of_cover 6 (G m c) (fun t _ => flushed_eq m c t) cover

/-- The run: the result array holds `kernelFn` of the arguments, which are unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

/-! ### The result read at an index -/

section
variable (x : FVec Ideal S1x2048x128 .f32) (wq wk wv : FVec Ideal S128x1024 .f32) (wu : FVec Ideal S1024x128 .f32)
    (bu : FVec Ideal S128 .f32)

/-- The weights of the queries, scaled. -/
def scaled (w : FVec Ideal S128x1024 .f32) : FVec Ideal S128x1024 .f32 := fun i => w i * (scaleVal : EReal)

theorem flat_apply (t : Fin 2048) (k : Fin 128) :
    shapeCast S2048x128 x shapeCasts_S1x2048x128_S2048x128 (ix2 t k) = x (ix3 (0 : Fin 1) t k) :=
  shapeCast_apply x _ _ _ (by rw [Shape.rowMajor_val_two, Shape.rowMajor_val_three]; show (0 * 2048 + t.val) * 128 + k.val = t.val * 128 + k.val; omega)

theorem bias_apply (d : Fin 128) : shapeCast S1x128 bu shapeCasts_S128_S1x128 (ix2 (0 : Fin 1) d) = bu (ix1 d) :=
  shapeCast_apply bu _ _ _ (by rw [Shape.rowMajor_val_two, Shape.rowMajor_val_one]; show d.val = 0 * 128 + d.val; omega)

theorem kernelFn_apply (t : Fin 2048) (d : Fin 128) : kernelFn x wq wk wv wu bu (ix2 t d)
    = (∑ c : Fin 1024, attended (proj x (scaled wq)) (proj x wk) (proj x wv) t c * wu (ix2 c d)) + bu (ix1 d) := by
  have hq : k0_pay3 (shapeCast S2048x128 x shapeCasts_S1x2048x128_S2048x128) wq = proj x (scaled wq) := by
    funext i
    rw [eq_ix2 i]
    refine (query_apply _ _ _ _).trans (Finset.sum_congr rfl fun k _ => ?_)
    exact congrArg (· * _) (flat_apply x _ k)
  have hk : ∀ w : FVec Ideal S128x1024 .f32, k0_pay4 (shapeCast S2048x128 x shapeCasts_S1x2048x128_S2048x128) w = proj x w := by
    intro w
    funext i
    rw [eq_ix2 i]
    refine (key_apply _ _ _ _).trans (Finset.sum_congr rfl fun k _ => ?_)
    exact congrArg (· * _) (flat_apply x _ k)
  show result _ _ _ wu _ t d = _
  rw [hq, hk wk, show k0_pay5 (shapeCast S2048x128 x shapeCasts_S1x2048x128_S2048x128) wv = proj x wv from hk wv]
  unfold result
  rw [bias_apply]

end

end Cert.Band.Array

end
-- ==== Proof.Take.lean ====
module

public import proofs.«01_k».proof.Proof.Gen.ReferenceIdeal.Read
public import proofs.«01_k».proof.Proof.Window
public import Idealize.ShloMosaic.Lib.ReduceAll
public import Idealize.ShloMosaic.Lib.KernelVsHost

/-! The reference's padded rows, and the rows its windows take, read at an index. -/

@[expose] public section

set_option maxRecDepth 16384

noncomputable section

namespace Cert.Band.Take

open Idealize.ShloMosaic Idealize.ShloMosaic.TcCoe Idealize.SL.Sem Idealize.ShloMosaic.ValueIdx
open Cert.ReferenceIdeal Cert.ReferenceIdeal.Gen Cert.ReferenceIdeal.Read

variable (x : FVec Ideal S1x2048x128 .f32) (w : FVec Ideal S128x1024 .f32)

/-! ### The padded rows -/

/-- Row `p` of the padded input: zero for the first 31. -/
theorem pad_row (p : Fin 2079) (k : Fin 128) : val_main_v0 (F := Ideal) x (ix3 (0 : Fin 1) p k)
    = if h : 31 ≤ p.val ∧ p.val - 31 < 2048 then x (ix3 (0 : Fin 1) ⟨p.val - 31, h.2⟩ k) else (0 : EReal) := by
  unfold val_main_v0
  by_cases h : 31 ≤ p.val
  · have hp := p.isLt
    rw [dif_pos ⟨h, by omega⟩]
    exact pad_apply_of_inside _ _ _ x _ _ _ _ _ fun a => match a with
      | ⟨0, _⟩ => rfl
      | ⟨1, _⟩ => by show p.val = 31 + (p.val - 31) * (0 + 1); omega
      | ⟨2, _⟩ => by show k.val = 0 + k.val * (0 + 1); omega
  · rw [dif_neg fun hh => h hh.1]
    refine (pad_apply_of_not_inside _ _ _ x _ _ _ _ (1 : Fin 3) fun hh => h hh.1).trans ?_
    show (((0#32 : BitVec 32).toInt : ℝ) : EReal) = 0
    simp

/-- The padded input's rows times the columns of `w` are the padded rows of the product. -/
theorem pad_proj (p : Fin 2079) (c : Fin 1024) :
    ∑ k : Fin 128, val_main_v0 (F := Ideal) x (ix3 (0 : Fin 1) p k) * w (ix2 k c) = padRow (proj x w) p.val c := by
  unfold padRow
  simp only [pad_row]
  by_cases h : 31 ≤ p.val ∧ p.val - 31 < 2048
  · simp only [dif_pos h]; rfl
  · simp only [dif_neg h, zero_mul, Finset.sum_const_zero]

/-- Splitting the columns by head. -/
theorem split_col (n q : Nat) (h : Fin 8) (e : Fin 128) (hq : q < n) :
    (((0 * n + q) * 8 + h.val) * 128 + e.val) / 1024 % n = q
      ∧ (((0 * n + q) * 8 + h.val) * 128 + e.val) % 1024 = 128 * h.val + e.val := by
  have hh := h.isLt
  have he := e.isLt
  have e1 : (((0 * n + q) * 8 + h.val) * 128 + e.val) = 1024 * q + (128 * h.val + e.val) := by ring
  rw [e1]
  refine ⟨?_, by omega⟩
  rw [show (1024 * q + (128 * h.val + e.val)) / 1024 = q by omega, Nat.mod_eq_of_lt hq]

theorem keys_apply (h : Fin 8) (p : Fin 2079) (e : Fin 128) :
    val_main_v6 (F := Ideal) x w (ix4 (0 : Fin 1) h p e) = padRow (proj x w) p.val (col h e) := by
  have hs := split_col 2079 p.val h e p.isLt
  rw [val_main_v6_apply, val_main_v5_apply, val_main_v4_apply, ← pad_proj]
  refine Finset.sum_congr rfl fun k _ => congrArg₂ (· * ·) (congrArg _ ?_) (congrArg w ?_)
  · exact funext fun a => match a with
      | ⟨0, _⟩ => rfl
      | ⟨1, _⟩ => Fin.ext hs.1
      | ⟨2, _⟩ => rfl
  · exact funext fun a => match a with
      | ⟨0, _⟩ => rfl
      | ⟨1, _⟩ => Fin.ext hs.2

theorem values_apply (h : Fin 8) (p : Fin 2079) (e : Fin 128) :
    val_main_v9 (F := Ideal) x w (ix4 (0 : Fin 1) h p e) = padRow (proj x w) p.val (col h e) :=
  keys_apply x w h p e

theorem queries_apply (h : Fin 8) (t : Fin 2048) (e : Fin 128) :
    val_main_v3 (F := Ideal) x w (ix4 (0 : Fin 1) h t e) = proj x w (ix2 t (col h e)) := by
  have hs := split_col 2048 t.val h e t.isLt
  rw [val_main_v3_apply, val_main_v2_apply, val_main_v1_apply]
  refine Finset.sum_congr rfl fun k _ => congrArg₂ (· * ·) (congrArg x ?_) (congrArg w ?_)
  · exact funext fun a => match a with
      | ⟨0, _⟩ => rfl
      | ⟨1, _⟩ => Fin.ext hs.1
      | ⟨2, _⟩ => rfl
  · exact funext fun a => match a with
      | ⟨0, _⟩ => rfl
      | ⟨1, _⟩ => Fin.ext hs.2

/-! ### The rows a window takes -/

/-- A small natural number, as a word, reads as itself. -/
theorem toInt_small {n : Nat} (h : n < 2 ^ 31) : (BitVec.ofNat 32 n).toInt = n := by
  rw [BitVec.toInt_eq_toNat_cond, BitVec.toNat_ofNat]
  have h' : n % 2 ^ 32 = n := Nat.mod_eq_of_lt (by omega)
  rw [h', if_pos (by omega)]

/-- The row that place `i` of row `t`'s window names, before the wrap of negative numbers. -/
theorem row_word (j : S2048x32.Idx) : val_main_v22 (F := Ideal) j = BitVec.ofNat 32 ((j 0).val + (j 1).val) := by
  rw [val_main_v22_apply, val_main_v20_apply, val_main_v17_apply, val_main_v16_apply, val_main_v21_apply, val_main_v19_apply,
    val_main_v18_apply]
  exact BitVec.ofNat_add_ofNat ..

/-- No row is negative, so the wrap leaves it. -/
theorem start_word (j : S2048x32x1.Idx) : val_main_call1_v5 (F := Ideal) j = BitVec.ofNat 32 ((j 0).val + (j 1).val) := by
  have h0 : (j 0).val < 2048 := (j 0).isLt
  have h1 : (j 1).val < 32 := (j 1).isLt
  rw [val_main_call1_v5_apply, val_main_call1_v4_apply, val_main_call1_v1_apply, val_main_call1_v0_apply,
    val_main_call1_c_apply, row_word]
  refine (if_neg fun hlt => ?_).trans rfl
  replace hlt := IntOp.cmpi_slt.1 hlt
  have e : (BitVec.ofNat 32 ((j 0).val + (j 1).val)).toInt = _ := toInt_small (by omega)
  have hlt' : (BitVec.ofNat 32 ((j 0).val + (j 1).val)).toInt < 0 := hlt
  omega

/-- Every row is in range. -/
theorem in_range (j : S2048x32.Idx) : val_main_call1_v12 (F := Ideal) j = 1#1 := by
  unfold val_main_call1_v12
  refine Host.reduce_andi_one _ _ _ _ _ rfl fun i => ?_
  have h0 : (i 0).val < 2048 := (i 0).isLt
  have h1 : (i 1).val < 32 := (i 1).isLt
  rw [val_main_call1_v11_apply, val_main_call1_v7_apply, val_main_call1_v10_apply, val_main_call1_v6_apply,
    val_main_call1_c_2_apply, val_main_call1_v9_apply, val_main_call1_v8_apply, val_main_call1_c_1_apply, start_word,
    IntOp.andi_eq_one, IntOp.cmpi_sge, IntOp.cmpi_sle]
  have e : (BitVec.ofNat 32 ((i 0).val + (i 1).val)).toInt = _ := toInt_small (by omega)
  refine ⟨?_, ?_⟩
  · show (0 : Int) ≤ (BitVec.ofNat 32 ((i 0).val + (i 1).val)).toInt
    omega
  · show (BitVec.ofNat 32 ((i 0).val + (i 1).val)).toInt ≤ (2078 : Int)
    omega

/-- The element a window's place takes out of `y`. -/
theorem gather_row (y : FVec Ideal S1x8x2079x128 .f32) (h : Fin 8) (t : Fin 2048) (i : Fin 32) (e : Fin 128) (p : Fin 2079)
    (hp : p.val = t.val + i.val) :
    Host.gather gather_S1x8x2079x128_S2048x32x1_S1x8x2048x32x128_014_2_n_n_2_2_181128 y (val_main_call1_v5 (F := Ideal))
      (ix5 (0 : Fin 1) h t i e) = y (ix4 (0 : Fin 1) h p e) := by
  have ht := t.isLt
  have hi := i.isLt
  unfold Host.gather
  refine congrArg y (funext fun a => Fin.ext ?_)
  show GatherDims.start _ _ _ a + GatherDims.batchCoord _ _ a + GatherDims.offCoord _ _ a = _
  rw [GatherDims.batchCoord_eq_zero _ _ _ List.not_mem_nil, Nat.add_zero]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide), start_word, toInt_small]
    · show min ((t.val + i.val : Nat) : Int).toNat 2078 = p.val
      omega
    · show t.val + i.val < 2 ^ 31
      omega
  · unfold GatherDims.start GatherDims.offCoord
    rw [dif_neg (by decide), dif_pos (by decide), Nat.zero_add]
    rfl

/-- The keys a window takes. -/
theorem taken_keys (h : Fin 8) (t : Fin 2048) (i : Fin 32) (e : Fin 128) (p : Fin 2079) (hp : p.val = t.val + i.val) :
    val_main_v23 (F := Ideal) x w (ix5 (0 : Fin 1) h t i e) = val_main_v15 (F := Ideal) x w (ix4 (0 : Fin 1) h p e) := by
  rw [val_main_v23_apply, val_main_call1_v14_apply, in_range]
  exact (if_pos rfl).trans (gather_row _ h t i e p hp)

/-- The values a window takes. -/
theorem taken_values (h : Fin 8) (t : Fin 2048) (i : Fin 32) (e : Fin 128) (p : Fin 2079) (hp : p.val = t.val + i.val) :
    val_main_v24 (F := Ideal) x w (ix5 (0 : Fin 1) h t i e) = val_main_v9 (F := Ideal) x w (ix4 (0 : Fin 1) h p e) := by
  rw [val_main_v24_apply, val_main_call2_v14_apply,
    show val_main_call2_v12 (F := Ideal) = val_main_call1_v12 from rfl, in_range]
  exact (if_pos rfl).trans (gather_row _ h t i e p hp)

end Cert.Band.Take

end
-- ==== Proof.Reference.lean ====
module

public import proofs.«01_k».proof.Proof.Take

/-! The reference's result read at an index. -/

@[expose] public section

set_option maxRecDepth 16384

noncomputable section

namespace Cert.Band.Reference

open Idealize.ShloMosaic Idealize.ShloMosaic.TcCoe Idealize.SL.Sem Idealize.ShloMosaic.ValueIdx
open Cert.ReferenceIdeal Cert.ReferenceIdeal.Gen Cert.ReferenceIdeal.Read Cert.Band.Take

variable (x : FVec Ideal S1x2048x128 .f32) (wq wk wv : FVec Ideal S128x1024 .f32) (wu : FVec Ideal S1024x128 .f32)
  (bu : FVec Ideal S128 .f32)

/-- The root both factors of a score are divided by. -/
def root : EReal := Ideal.sqrt (Ideal.sqrt ((128 : ℝ) : EReal))

theorem root_eq (i : S_.Idx) : val_main_v11 (F := Ideal) i = root := by
  rw [val_main_v11_apply, val_main_v10_apply, val_main_cst_apply]
  show Ideal.sqrt (Ideal.sqrt (Ideal.ofBits .f32 0x43000000#32)) = root
  unfold root
  congr 2
  simp [Ideal.ofBits, Ideal.ieee, -EReal.coe_mul]
  norm_num

/-- The score of place `i` of row `t`'s window in head `h`. -/
def score (h : Fin 8) (t : Fin 2048) (i : Fin 32) : EReal :=
  ∑ e : Fin 128, Ideal.div (proj x wq (ix2 t (col h e))) root * Ideal.div (padRow (proj x wk) (t.val + i.val) (col h e)) root

theorem score_apply (h : Fin 8) (t : Fin 2048) (i : Fin 32) :
    val_main_v25 (F := Ideal) x wq wk (ix4 (0 : Fin 1) h t i) = score x wq wk h t i := by
  rw [val_main_v25_apply]
  refine Finset.sum_congr rfl fun e _ => ?_
  have hl : lidx_main_v25 (ix4 (0 : Fin 1) h t i) e = ix4 (0 : Fin 1) h t e := eq_ix4 _
  have hr : ridx_main_v25 (ix4 (0 : Fin 1) h t i) e = ix5 (0 : Fin 1) h t i e := eq_ix5 _
  rw [hl, hr, taken_keys x wk h t i e ⟨t.val + i.val, by omega⟩ rfl, val_main_v13_apply, val_main_v15_apply, val_main_v12_apply,
    val_main_v14_apply, root_eq, queries_apply, keys_apply]
  rfl

/-- The largest score of the row's window. -/
def largest (h : Fin 8) (t : Fin 2048) : EReal :=
  (Finset.univ : Finset (Fin 32)).fold max ⊥ fun i => score x wq wk h t i

theorem largest_apply (h : Fin 8) (t : Fin 2048) :
    val_main_v28 (F := Ideal) x wq wk (ix3 (0 : Fin 1) h t) = largest x wq wk h t := by
  have hb : Ideal.ofBits .f32 0xFF800000#32 = (⊥ : EReal) := by simp [Ideal.ofBits, Ideal.ieee]
  rw [val_main_v28_apply, val_main_v27_apply, val_main_cst_1_apply]
  show max (Ideal.ofBits .f32 0xFF800000#32) _ = _
  rw [hb, max_eq_right bot_le]
  unfold val_main_v26 largest
  have hr : S1x8x2048x32.Reduces [3] S1x8x2048 := by decide
  refine (Host.reduce_eq_fold_single (FloatOps.maximumf (F := Ideal) (φ := .f32)) _ _ reducesTo_S1x8x2048x32_S1x8x2048_d3 hr h_S_
    (ix3 (0 : Fin 1) h t)).trans ?_
  show Finset.fold max (Ideal.ofBits .f32 0xFF800000#32) _ (Finset.univ : Finset (Fin 32)) = _
  rw [hb]
  refine congrArg (fun f => Finset.fold max (⊥ : EReal) f (Finset.univ : Finset (Fin 32))) (funext fun i => ?_)
  refine Eq.trans ?_ (score_apply x wq wk h t i)
  refine congrArg (val_main_v25 (F := Ideal) x wq wk) ?_
  exact funext fun a => match a with
    | ⟨0, _⟩ => rfl
    | ⟨1, _⟩ => rfl
    | ⟨2, _⟩ => rfl
    | ⟨3, _⟩ => rfl

/-- A window place's weight before normalising. -/
def expo (h : Fin 8) (t : Fin 2048) (i : Fin 32) : EReal :=
  Ideal.exp (score x wq wk h t i - largest x wq wk h t)

theorem expo_apply (h : Fin 8) (t : Fin 2048) (i : Fin 32) :
    val_main_v32 (F := Ideal) x wq wk (ix4 (0 : Fin 1) h t i) = expo x wq wk h t i := by
  rw [val_main_v32_apply, val_main_v31_apply, score_apply, val_main_v30_apply, val_main_v29_apply]
  show Ideal.exp (score x wq wk h t i - _) = _
  have hi : idx_main_v29 (idx_main_v30 (ix4 (0 : Fin 1) h t i)) = ix3 (0 : Fin 1) h t := eq_ix3 _
  rw [hi, largest_apply]
  rfl

/-- The attended value of row `t` in head `h`, at column `e` of the head. -/
def heads (h : Fin 8) (t : Fin 2048) (e : Fin 128) : EReal :=
  ∑ i : Fin 32, Ideal.div (expo x wq wk h t i) (0 + ∑ j : Fin 32, expo x wq wk h t j)
    * padRow (proj x wv) (t.val + i.val) (col h e)

theorem heads_apply (h : Fin 8) (t : Fin 2048) (e : Fin 128) :
    val_main_v37 (F := Ideal) x wq wk wv (ix4 (0 : Fin 1) h t e) = heads x wq wk wv h t e := by
  rw [val_main_v37_apply]
  refine Finset.sum_congr rfl fun i _ => ?_
  have hz : Ideal.ofBits .f32 0x00000000#32 = (0 : EReal) := by simp [Ideal.ofBits, Ideal.ieee]
  have hl : lidx_main_v37 (ix4 (0 : Fin 1) h t e) i = ix4 (0 : Fin 1) h t i := eq_ix4 _
  have hr : ridx_main_v37 (ix4 (0 : Fin 1) h t e) i = ix5 (0 : Fin 1) h t i e := eq_ix5 _
  rw [hl, hr, taken_values x wv h t i e ⟨t.val + i.val, by omega⟩ rfl, values_apply, val_main_v36_apply, expo_apply,
    val_main_v35_apply, val_main_v34_apply, val_main_v33_apply]
  refine congrArg (· * padRow (proj x wv) (t.val + i.val) (col h e)) (congrArg (Ideal.div (expo x wq wk h t i)) ?_)
  refine congrArg₂ (· + ·) hz (Finset.sum_congr rfl fun j _ => ?_)
  exact (congrArg (val_main_v32 (F := Ideal) x wq wk) (eq_ix4 _)).trans (expo_apply x wq wk h t j)

/-- The result: over all heads' columns, the attended values times the output matrix, plus the bias. -/
theorem result_apply (t : Fin 2048) (d : Fin 128) : val_main_v44 (F := Ideal) x wq wk wv wu bu (ix2 t d)
    = (∑ c : Fin 1024, heads x wq wk wv (headOf c) t (within c) * wu (ix2 c d)) + bu (ix1 d) := by
  have ht := t.isLt
  have hd := d.isLt
  have hi : idx_main_v44 (ix2 t d) = ix3 (0 : Fin 1) t d := funext fun a => match a with
    | ⟨0, _⟩ => rfl
    | ⟨1, _⟩ => Fin.ext (by show (t.val * 128 + d.val) / 128 % 2048 = t.val; omega)
    | ⟨2, _⟩ => Fin.ext (by show (t.val * 128 + d.val) % 128 = d.val; omega)
  rw [val_main_v44_apply, hi, val_main_v43_apply, val_main_v40_apply, val_main_v42_apply, val_main_v41_apply]
  refine congrArg₂ (· + ·) (Finset.sum_congr rfl fun c _ => ?_) (congrArg bu (eq_ix1 _))
  have hc := c.isLt
  refine congrArg₂ (· * ·) ?_ (congrArg wu (eq_ix2 _))
  rw [val_main_v39_apply, val_main_v38_apply, ← heads_apply]
  refine congrArg _ (funext fun a => match a with
    | ⟨0, _⟩ => rfl
    | ⟨1, _⟩ => Fin.ext ?_
    | ⟨2, _⟩ => Fin.ext ?_
    | ⟨3, _⟩ => Fin.ext ?_)
  · show ((0 * 2048 + t.val) * 1024 + c.val) / 128 % 8 = c.val / 128
    omega
  · show ((0 * 2048 + t.val) * 1024 + c.val) / 1024 % 2048 = t.val
    omega
  · show ((0 * 2048 + t.val) * 1024 + c.val) % 128 = c.val % 128
    omega

end Cert.Band.Reference

end
-- ==== Proof.Softmax.lean ====
module

public import Idealize.ShloMosaic.PureOps.Ideal.Laws
public import Mathlib.Analysis.SpecialFunctions.Pow.Real

/-! Sums of extended reals, and the softmax-weighted sum in its two forms. -/

@[expose] public section

noncomputable section

namespace Cert.Band.Softmax

open Idealize.ShloMosaic

variable {ι : Type} [Fintype ι]

theorem coe_sum (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- A sum of products of reals is the real sum of the products. -/
theorem sum_mul_coe (f g : ι → ℝ) : ∑ i, (f i : EReal) * (g i : EReal) = ((∑ i, f i * g i : ℝ) : EReal) := by
  rw [coe_sum]
  exact Finset.sum_congr rfl fun i _ => (EReal.coe_mul _ _).symm

/-- A nonnegative real distributes over any sum of extended reals. -/
theorem sum_mul_real (f : ι → EReal) {c : ℝ} (hc : 0 ≤ c) : (∑ i, f i) * (c : EReal) = ∑ i, f i * (c : EReal) := by
  classical
  refine Finset.induction_on (Finset.univ : Finset ι) (by simp) fun a s ha ih => ?_
  rw [Finset.sum_insert ha, Finset.sum_insert ha,
    EReal.right_distrib_of_nonneg_of_ne_top (by exact_mod_cast hc) (EReal.coe_ne_top c), ih]

/-- Normalising the weights first, from scores shifted by a real, is dividing by the sum of the weights last. -/
theorem softmax_sum [Nonempty ι] (s : ι → ℝ) (m : ℝ) (v : ι → EReal) :
    ∑ i, Ideal.div (Ideal.exp ((s i : EReal) - (m : EReal))) (0 + ∑ j, Ideal.exp ((s j : EReal) - (m : EReal))) * v i
      = (∑ i, (Real.exp (s i) : EReal) * v i) * Ideal.div 1 (∑ j, (Real.exp (s j) : EReal)) := by
  have hZ : 0 < ∑ j, Real.exp (s j) := Finset.sum_pos (fun j _ => Real.exp_pos _) Finset.univ_nonempty
  have hE : ∀ j, Ideal.exp ((s j : EReal) - (m : EReal)) = ((Real.exp (s j) * Real.exp (-m) : ℝ) : EReal) := fun j => by
    rw [← EReal.coe_sub, Ideal.exp_coe, sub_eq_add_neg, Real.exp_add]
  have hD : (0 : EReal) + ∑ j, Ideal.exp ((s j : EReal) - (m : EReal))
      = (((∑ j, Real.exp (s j)) * Real.exp (-m) : ℝ) : EReal) := by
    rw [zero_add, Finset.sum_mul, coe_sum]
    exact Finset.sum_congr rfl fun j _ => hE j
  have hm := Real.exp_pos (-m)
  rw [hD, ← coe_sum, Ideal.div_coe hZ.ne', one_mul, sum_mul_real _ (by positivity)]
  refine Finset.sum_congr rfl fun i _ => ?_
  have hr : Real.exp (s i) * Real.exp (-m) * (1 / ((∑ j, Real.exp (s j)) * Real.exp (-m)))
      = Real.exp (s i) * (1 / ∑ j, Real.exp (s j)) := by field_simp
  rw [hE, Ideal.div_coe (by positivity), ← EReal.coe_mul, hr, EReal.coe_mul, mul_right_comm]

/-- Two to a real divided by `log 2` is `e` to the real. -/
theorem exp2_scaled (r : ℝ) : Ideal.exp2 ((r * (Real.log 2)⁻¹ : ℝ) : EReal) = (Real.exp r : EReal) := by
  rw [Ideal.exp2_coe]
  congr 1
  show (2 : ℝ) ^ (r * (Real.log 2)⁻¹) = _
  have h2 : Real.log 2 ≠ 0 := (Real.log_pos one_lt_two).ne'
  rw [Real.rpow_def_of_pos two_pos]
  congr 1
  field_simp

/-- The two factors' roots multiply to the root of 128. -/
theorem div_root (q k : ℝ) : Ideal.div (q : EReal) (Ideal.sqrt (Ideal.sqrt ((128 : ℝ) : EReal)))
    * Ideal.div (k : EReal) (Ideal.sqrt (Ideal.sqrt ((128 : ℝ) : EReal))) = ((q * k * (Real.sqrt 128)⁻¹ : ℝ) : EReal) := by
  have h1 : Ideal.sqrt ((128 : ℝ) : EReal) = (Real.sqrt 128 : EReal) := by
    rw [Ideal.sqrt_coe, if_neg (by norm_num)]
  have h2 : Ideal.sqrt (Real.sqrt 128 : EReal) = (Real.sqrt (Real.sqrt 128) : EReal) := by
    rw [Ideal.sqrt_coe, if_neg (not_lt.2 (Real.sqrt_nonneg _))]
  have h3 : 0 < Real.sqrt 128 := Real.sqrt_pos.2 (by norm_num)
  have h4 : 0 < Real.sqrt (Real.sqrt 128) := Real.sqrt_pos.2 h3
  rw [h1, h2, Ideal.div_coe h4.ne', Ideal.div_coe h4.ne', ← EReal.coe_mul, ← EReal.coe_mul, ← EReal.coe_mul]
  congr 1
  have h5 : Real.sqrt 128 = Real.sqrt (Real.sqrt 128) * Real.sqrt (Real.sqrt 128) := (Real.mul_self_sqrt h3.le).symm
  have h6 : (Real.sqrt 128)⁻¹ = 1 / Real.sqrt (Real.sqrt 128) * (1 / Real.sqrt (Real.sqrt 128)) := by
    rw [h5, Real.sqrt_mul_self h4.le, mul_inv]; simp
  rw [h6]
  ring

/-- The largest of finitely many reals, taken from minus infinity, is a real. -/
theorem fold_max_real [Nonempty ι] (s : ι → ℝ) :
    ∃ m : ℝ, (Finset.univ : Finset ι).fold max (⊥ : EReal) (fun i => (s i : EReal)) = (m : EReal) := by
  have hlt : (Finset.univ : Finset ι).fold max (⊥ : EReal) (fun i => (s i : EReal)) < ⊤ :=
    (Finset.fold_max_lt _).2 ⟨bot_lt_top, fun i _ => EReal.coe_lt_top _⟩
  have hgt : (⊥ : EReal) < (Finset.univ : Finset ι).fold max (⊥ : EReal) (fun i => (s i : EReal)) :=
    (EReal.bot_lt_coe (s (Classical.arbitrary ι))).trans_le
      ((Finset.le_fold_max _).2 (Or.inr ⟨_, Finset.mem_univ _, le_refl _⟩))
  exact ⟨_, (EReal.coe_toReal hlt.ne hgt.ne').symm⟩

end Cert.Band.Softmax

end
-- ==== Proof.Equal.lean ====
module

public import proofs.«01_k».proof.Proof.Array
public import proofs.«01_k».proof.Proof.Reference
public import proofs.«01_k».proof.Proof.Softmax

/-! On real `x`, `Wq` and `Wk` the kernel's result is the reference's. -/

@[expose] public section

set_option maxRecDepth 16384

noncomputable section

namespace Cert.Band.Equal

open Idealize.ShloMosaic Idealize.ShloMosaic.TcCoe Idealize.SL.Sem Idealize.ShloMosaic.ValueIdx
open Cert.Band.Array Cert.Band.Reference Cert.Band.Softmax

variable (x : FVec Ideal ⟨3, ![1, 2048, 128]⟩ .f32) (wq wk wv : FVec Ideal (Mat 128 1024) .f32)
  (wu : FVec Ideal (Mat 1024 128) .f32) (bu : FVec Ideal ⟨1, ![128]⟩ .f32)
variable (X : (⟨3, ![1, 2048, 128]⟩ : Shape).Idx → ℝ) (A B : (Mat 128 1024).Idx → ℝ)

/-- A projection over the reals. -/
def projR (X : (⟨3, ![1, 2048, 128]⟩ : Shape).Idx → ℝ) (A : (Mat 128 1024).Idx → ℝ) (t : Fin 2048) (c : Fin 1024) : ℝ :=
  ∑ k : Fin 128, X (ix3 0 t k) * A (ix2 k c)

/-- A padded projection over the reals. -/
def padR (X : (⟨3, ![1, 2048, 128]⟩ : Shape).Idx → ℝ) (B : (Mat 128 1024).Idx → ℝ) (t : ℕ) (c : Fin 1024) : ℝ :=
  if h : 31 ≤ t ∧ t - 31 < 2048 then projR X B ⟨t - 31, h.2⟩ c else 0

variable {x wq wk X A B}

/-- A projection of reals is real. -/
theorem proj_real (hx : ∀ i, x i = (X i : EReal)) (hw : ∀ i, wq i = (A i : EReal)) (t : Fin 2048) (c : Fin 1024) :
    proj x wq (ix2 t c) = (projR X A t c : EReal) := by
  refine Eq.trans (Finset.sum_congr rfl fun k _ => ?_) (sum_mul_coe (fun k => X (ix3 0 t k)) fun k => A (ix2 k c))
  exact congrArg₂ (· * ·) (hx _) (hw _)

/-- Scaling the matrix scales the projection. -/
theorem proj_scaled (hx : ∀ i, x i = (X i : EReal)) (hw : ∀ i, wq i = (A i : EReal)) (t : Fin 2048) (c : Fin 1024) :
    proj x (scaled wq) (ix2 t c) = ((projR X A t c * scaleVal : ℝ) : EReal) := by
  have hs : ∀ i, scaled wq i = ((A i * scaleVal : ℝ) : EReal) := fun i => by
    unfold scaled
    rw [hw, EReal.coe_mul]
  rw [proj_real hx hs]
  unfold projR
  rw [Finset.sum_mul]
  exact congrArg _ (Finset.sum_congr rfl fun k _ => (mul_assoc _ _ _).symm)

/-- A padded projection of reals is real. -/
theorem pad_real (hx : ∀ i, x i = (X i : EReal)) (hw : ∀ i, wk i = (B i : EReal)) (t : ℕ) (c : Fin 1024) :
    padRow (proj x wk) t c = (padR X B t c : EReal) := by
  unfold padRow padR
  split
  · exact proj_real hx hw _ _
  · rfl

/-- The score over the reals. -/
def scoreR (X : (⟨3, ![1, 2048, 128]⟩ : Shape).Idx → ℝ) (A B : (Mat 128 1024).Idx → ℝ) (h : Fin 8) (t : Fin 2048)
    (i : Fin 32) : ℝ :=
  ∑ e : Fin 128, projR X A t (col h e) * padR X B (t.val + i.val) (col h e) * (Real.sqrt 128)⁻¹

/-- The reference's score is real. -/
theorem score_real (hx : ∀ i, x i = (X i : EReal)) (hq : ∀ i, wq i = (A i : EReal)) (hk : ∀ i, wk i = (B i : EReal))
    (h : Fin 8) (t : Fin 2048) (i : Fin 32) : score x wq wk h t i = (scoreR X A B h t i : EReal) := by
  unfold score scoreR
  rw [coe_sum]
  refine Finset.sum_congr rfl fun e _ => ?_
  rw [proj_real hx hq, pad_real hx hk]
  exact div_root _ _

/-- The kernel's weight is the exponential of the score. -/
theorem weight_real (hx : ∀ i, x i = (X i : EReal)) (hq : ∀ i, wq i = (A i : EReal)) (hk : ∀ i, wk i = (B i : EReal))
    (h : Fin 8) (t : Fin 2048) (i : Fin 32) :
    weight (proj x (scaled wq)) (proj x wk) t h i = (Real.exp (scoreR X A B h t i) : EReal) := by
  have hs : (∑ e : Fin 128, proj x (scaled wq) (ix2 t (col h e)) * padRow (proj x wk) (t.val + i.val) (col h e))
      = ((scoreR X A B h t i * (Real.log 2)⁻¹ : ℝ) : EReal) := by
    refine Eq.trans (Finset.sum_congr rfl fun e _ => congrArg₂ (· * ·) (proj_scaled hx hq t (col h e))
      (pad_real hx hk (t.val + i.val) (col h e))) ((sum_mul_coe _ _).trans (congrArg _ ?_))
    unfold scoreR scaleVal
    rw [Finset.sum_mul]
    exact Finset.sum_congr rfl fun e _ => by ring
  unfold weight
  rw [hs]
  exact exp2_scaled _

/-- The attended values agree. -/
theorem heads_eq (hx : ∀ i, x i = (X i : EReal)) (hq : ∀ i, wq i = (A i : EReal)) (hk : ∀ i, wk i = (B i : EReal))
    (t : Fin 2048) (c : Fin 1024) :
    attended (proj x (scaled wq)) (proj x wk) (proj x wv) t c = heads x wq wk wv (headOf c) t (within c) := by
  obtain ⟨m, hm⟩ := fold_max_real fun i : Fin 32 => scoreR X A B (headOf c) t i
  have hl : largest x wq wk (headOf c) t = (m : EReal) := by
    refine Eq.trans ?_ hm
    exact congrArg (fun f => Finset.fold max (⊥ : EReal) f Finset.univ) (funext fun i => score_real hx hq hk _ _ _)
  unfold attended heads expo
  rw [col_headOf, hl]
  simp only [weight_real hx hq hk, score_real hx hq hk]
  exact (softmax_sum _ _ _).symm

/-- The results agree. -/
theorem kernelFn_eq (hx : ∀ i, x i = (X i : EReal)) (hq : ∀ i, wq i = (A i : EReal)) (hk : ∀ i, wk i = (B i : EReal)) :
    kernelFn x wq wk wv wu bu = Cert.ReferenceIdeal.Read.val_main_v44 (F := Ideal) x wq wk wv wu bu := by
  funext i
  have hi : i = ix2 (i 0) (i 1) := eq_ix2 i
  rw [hi]
  refine (kernelFn_apply x wq wk wv wu bu (i 0) (i 1)).trans (Eq.trans ?_ (result_apply x wq wk wv wu bu (i 0) (i 1)).symm)
  exact congrArg (· + bu (ix1 (i 1))) (Finset.sum_congr rfl fun c _ =>
    congrArg (· * wu (ix2 c (i 1))) (heads_eq wv hx hq hk (i 0) c))

end Cert.Band.Equal

end
-- ==== Proof.Finite.lean ====
module

public import proofs.«01_k».proof.Proof.Gen.Pre_finite
public import Idealize.ShloMosaic.Lib.ReduceAll
public import Idealize.ShloMosaic.PureOps.Ideal.Laws

/-! What the precondition says: every entry of `x`, `Wq` and `Wk` is real. -/

@[expose] public section

noncomputable section

namespace Cert.Band.Finite

open Idealize.ShloMosaic
open Cert.Pre_finite

/-- A magnitude below infinity is a real's. -/
theorem real_of_abs_lt (a : EReal) (h : Ideal.cmp .olt (max a (-a)) (Ideal.ofBits .f32 0x7F800000#32) = 1#1) :
    ∃ r : ℝ, a = (r : EReal) := by
  have ht : Ideal.ofBits .f32 0x7F800000#32 = (⊤ : EReal) := by simp [Ideal.ofBits, Ideal.ieee]
  have hlt : max a (-a) < ⊤ := by
    rw [ht] at h
    by_contra hn
    simp [Ideal.cmp, hn] at h
  have h1 : a ≠ ⊤ := fun e => by simp [e] at hlt
  have h2 : a ≠ ⊥ := fun e => by simp [e] at hlt
  exact ⟨a.toReal, (EReal.coe_toReal h1 h2).symm⟩

/-- The precondition, decoded. -/
theorem decode (x : FVec Ideal S1x2048x128 .f32) (wq wk wv : FVec Ideal S128x1024 .f32) (wu : FVec Ideal S1024x128 .f32)
    (bu : FVec Ideal S128 .f32) (h : Cert.Pre_finite.fn (F := Ideal) x wq wk wv wu bu = fun _ => 1#1) :
    (∃ X : S1x2048x128.Idx → ℝ, ∀ i, x i = (X i : EReal)) ∧ (∃ A : S128x1024.Idx → ℝ, ∀ i, wq i = (A i : EReal))
      ∧ ∃ B : S128x1024.Idx → ℝ, ∀ i, wk i = (B i : EReal) := by
  haveI : Subsingleton S_.Idx := ⟨fun a b => funext fun k => k.elim0⟩
  have h0 := congrFun h (Shape.Idx.first Cert.Pre_finite.Gen.h_S_)
  obtain ⟨h8, h12⟩ := IntOp.andi_eq_one.1 h0
  obtain ⟨h3, h7⟩ := IntOp.andi_eq_one.1 h8
  have ex := fun i => real_of_abs_lt (x i) (Host.reduce_andi_all _ _ _ _ _ h3 i)
  have eq := fun i => real_of_abs_lt (wq i) (Host.reduce_andi_all _ _ _ _ _ h7 i)
  have ek := fun i => real_of_abs_lt (wk i) (Host.reduce_andi_all _ _ _ _ _ h12 i)
  exact ⟨⟨fun i => (ex i).choose, fun i => (ex i).choose_spec⟩, ⟨fun i => (eq i).choose, fun i => (eq i).choose_spec⟩,
    ⟨fun i => (ek i).choose, fun i => (ek i).choose_spec⟩⟩

end Cert.Band.Finite

end
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal
public import proofs.«01_k».proof.Proof.Finite

/-! The claims, one theorem each. -/

@[expose] public section

set_option maxRecDepth 16384

noncomputable section

namespace Cert.Band.Claims

open Idealize.ShloMosaic Idealize.SL.Sem

/-- The kernel runs, keeps its arguments and leaves every counter at zero. -/
theorem kernel_frame : Cert.quiescent_Kernel := fun m ρ _ => Cert.Kernel.Gen.frame m ρ

/-- The same of the ideal kernel, for any memory. -/
theorem ideal_frame : Cert.quiescent_KernelIdeal := fun m ρ _ => Cert.KernelIdeal.Gen.frame m ρ

/-- The same of the ideal kernel, for memories within the precondition. -/
theorem ideal_frame_finite : Cert.quiescent_KernelIdeal_pre_finite := fun m ρ _ => Cert.KernelIdeal.Gen.frame m ρ

/-- The reference runs, keeps its arguments and leaves every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same for memories within the precondition. -/
theorem reference_frame_finite : Cert.quiescent_ReferenceIdeal_pre_finite :=
  fun m ρ _ => reference_frame m ρ trivial

/-- Each named constant is one the program's own table names. -/
theorem preserves : Cert.preserves_Kernel_KernelIdeal :=
  ⟨IdealRules.named_const.statement _ _ _ _ _ rfl, IdealRules.named_const.statement _ _ _ _ _ rfl⟩

/-- The ideal kernel and the reference end with the same result. -/
theorem algebraic : Cert.algebraic_KernelIdeal_ReferenceIdeal_pre_finite := by
  intro m ρ m' ρ' hpre hagree
  refine ⟨fun c => Cert.Band.Array.G m c, Cert.Band.Array.run m ρ, ?_⟩
  refine (θ_run Cert.ReferenceIdeal.defs _ _).mono (fun _ h c => ⟨(h c).1.trans ?_, (h c).2⟩)
    (Cert.ReferenceIdeal.Value.run (F := Ideal) m' ρ')
  obtain ⟨⟨X, hx⟩, ⟨A, hq⟩, B, hk⟩ := Cert.Band.Finite.decode _ _ _ _ _ _ (hpre c)
  obtain ⟨e0, e1, e2, e3, e4, e5⟩ := hagree c
  refine (Cert.ReferenceIdeal.Read.val_main_v44_eq m' c).trans ?_
  rw [e0, e1, e2, e3, e4, e5]
  exact (Cert.Band.Equal.kernelFn_eq _ _ _ hx hq hk).symm

end Cert.Band.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Cert.Band.Claims.kernel_frame, Cert.Band.Claims.ideal_frame, Cert.Band.Claims.ideal_frame_finite,
  Cert.Band.Claims.reference_frame, Cert.Band.Claims.reference_frame_finite, Cert.Band.Claims.preserves,
  Cert.Band.Claims.algebraic⟩

end Cert.Proof

end
